-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S2x256x8192 : Shape := ⟨3, ![2, 256, 8192]⟩
abbrev S2 : Shape := ⟨1, ![2]⟩
abbrev S_ : Shape := ⟨0, ![]⟩
abbrev S256x256 : Shape := ⟨2, ![256, 256]⟩
abbrev S1x256x8192 : Shape := ⟨3, ![1, 256, 8192]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .fp8e4m3⟩
  | .hbm, ⟨1, _⟩ => ⟨S256x8192, .fp8e5m2⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .fp8e4m3⟩
  | .local _ .vmem, ⟨1, _⟩ => ⟨S256x8192, .fp8e5m2⟩
  | .local _ .vmem, ⟨2, _⟩ => ⟨S256x8192, .f32⟩
  | .local _ .vmem, ⟨3, _⟩ => ⟨S2x256x8192, .bf16⟩
  | .local _ .vmem, ⟨4, _⟩ => ⟨S256x8192, .f32⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 2 → Bool
  | ⟨0, _⟩ => true
  | ⟨1, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 2 9 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_20 : BitVec 32 := 16#32
  let v31 : BitVec 32 := Scalar.addi v2 c16_i32_20
  let c1_i32_21 : BitVec 32 := 1#32
  let v32 : BitVec 32 := Scalar.subi v31 c1_i32_21
  let c16_i32_22 : BitVec 32 := 16#32
  let c0_i32_23 : BitVec 32 := 0#32
  let v33 : BitVec 1 := Scalar.cmpi .eq c16_i32_22 c0_i32_23
  let c1_i32_24 : BitVec 32 := 1#32
  let v34 : BitVec 32 := Scalar.select v33 c1_i32_24 c16_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c256_i32 : BitVec 32 := 256#32
  let v43 : BitVec 32 := Scalar.muli v42 c256_i32
  let v44 : Index := Scalar.indexCast v43
  let c0 : Index := 0#32
  ![v44.toNat, 0]
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_37 : BitVec 32 := 1#32
  let v56 : BitVec 32 := Scalar.muli v25 c1_i32_37
  let v57 : BitVec 32 := Scalar.addi c0_i32_38 v56
  v57.toNat
def k0_off2 (d0 : Dev nD) (c0_i32_43 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v66 : BitVec 32 := Scalar.addi v2 c32_i32
  let v67 : BitVec 32 := Scalar.subi v66 c0_i32_43
  let c2_i32_44 : BitVec 32 := 2#32
  let v68 : BitVec 32 := Scalar.subi v67 c2_i32_44
  let c16_i32_45 : BitVec 32 := 16#32
  let c0_i32_46 : BitVec 32 := 0#32
  let v69 : BitVec 1 := Scalar.cmpi .eq c16_i32_45 c0_i32_46
  let c1_i32_47 : BitVec 32 := 1#32
  let v70 : BitVec 32 := Scalar.select v69 c1_i32_47 c16_i32_45
  let v71 : BitVec 32 := Scalar.remsi v68 v70
  let c0_i32_49 : BitVec 32 := 0#32
  let v73 : BitVec 1 := Scalar.cmpi .slt v71 c0_i32_49
  let c0_i32_50 : BitVec 32 := 0#32
  let v74 : BitVec 1 := Scalar.cmpi .slt v70 c0_i32_50
  let v75 : BitVec 1 := Scalar.xori v73 v74
  let c0_i32_48 : BitVec 32 := 0#32
  let v72 : BitVec 1 := Scalar.cmpi .ne v71 c0_i32_48
  let v76 : BitVec 1 := Scalar.andi v75 v72
  let v77 : BitVec 32 := Scalar.addi v71 v70
  let v78 : BitVec 32 := Scalar.select v76 v77 v71
  let c256_i32_51 : BitVec 32 := 256#32
  let v79 : BitVec 32 := Scalar.muli v78 c256_i32_51
  let v80 : Index := Scalar.indexCast v79
  let c0_52 : Index := 0#32
  ![v80.toNat, 0]
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_78 : BitVec 32 := 1#32
  let v105 : BitVec 32 := Scalar.muli v14 c1_i32_78
  let v106 : BitVec 32 := Scalar.addi c0_i32_79 v105
  v106.toNat
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_93 : BitVec 32 := 1#32
  let v116 : BitVec 32 := Scalar.muli v25 c1_i32_93
  let v117 : BitVec 32 := Scalar.addi c0_i32_94 v116
  v117.toNat
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_135 : BitVec 32 := 1#32
  let v165 : BitVec 32 := Scalar.muli v14 c1_i32_135
  let v166 : BitVec 32 := Scalar.addi c0_i32_136 v165
  v166.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_151 : BitVec 32 := 1#32
  let v176 : BitVec 32 := Scalar.muli v25 c1_i32_151
  let v177 : BitVec 32 := Scalar.addi c0_i32_152 v176
  v177.toNat
def k0_dev8 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_193 : BitVec 32 := 1#32
  let v225 : BitVec 32 := Scalar.muli v14 c1_i32_193
  let v226 : BitVec 32 := Scalar.addi c0_i32_194 v225
  v226.toNat
def k0_dev9 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_209 : BitVec 32 := 1#32
  let v236 : BitVec 32 := Scalar.muli v25 c1_i32_209
  let v237 : BitVec 32 := Scalar.addi c0_i32_210 v236
  v237.toNat
def k0_dev10 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_250 : BitVec 32 := 1#32
  let v285 : BitVec 32 := Scalar.muli v14 c1_i32_250
  let v286 : BitVec 32 := Scalar.addi c0_i32_251 v285
  v286.toNat
def k0_dev11 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_266 : BitVec 32 := 1#32
  let v296 : BitVec 32 := Scalar.muli v25 c1_i32_266
  let v297 : BitVec 32 := Scalar.addi c0_i32_267 v296
  v297.toNat
def k0_dev12 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_307 : BitVec 32 := 1#32
  let v345 : BitVec 32 := Scalar.muli v14 c1_i32_307
  let v346 : BitVec 32 := Scalar.addi c0_i32_308 v345
  v346.toNat
def k0_dev13 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_323 : BitVec 32 := 1#32
  let v356 : BitVec 32 := Scalar.muli v25 c1_i32_323
  let v357 : BitVec 32 := Scalar.addi c0_i32_324 v356
  v357.toNat
def k0_dev14 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_364 : BitVec 32 := 1#32
  let v405 : BitVec 32 := Scalar.muli v14 c1_i32_364
  let v406 : BitVec 32 := Scalar.addi c0_i32_365 v405
  v406.toNat
def k0_dev15 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_380 : BitVec 32 := 1#32
  let v416 : BitVec 32 := Scalar.muli v25 c1_i32_380
  let v417 : BitVec 32 := Scalar.addi c0_i32_381 v416
  v417.toNat
def k0_dev16 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_421 : BitVec 32 := 1#32
  let v465 : BitVec 32 := Scalar.muli v14 c1_i32_421
  let v466 : BitVec 32 := Scalar.addi c0_i32_422 v465
  v466.toNat
def k0_dev17 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_437 : BitVec 32 := 1#32
  let v476 : BitVec 32 := Scalar.muli v25 c1_i32_437
  let v477 : BitVec 32 := Scalar.addi c0_i32_438 v476
  v477.toNat
def k0_dev18 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_478 : BitVec 32 := 1#32
  let v525 : BitVec 32 := Scalar.muli v14 c1_i32_478
  let v526 : BitVec 32 := Scalar.addi c0_i32_479 v525
  v526.toNat
def k0_dev19 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_494 : BitVec 32 := 1#32
  let v536 : BitVec 32 := Scalar.muli v25 c1_i32_494
  let v537 : BitVec 32 := Scalar.addi c0_i32_495 v536
  v537.toNat
def k0_dev20 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_535 : BitVec 32 := 1#32
  let v585 : BitVec 32 := Scalar.muli v14 c1_i32_535
  let v586 : BitVec 32 := Scalar.addi c0_i32_536 v585
  v586.toNat
def k0_dev21 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_551 : BitVec 32 := 1#32
  let v596 : BitVec 32 := Scalar.muli v25 c1_i32_551
  let v597 : BitVec 32 := Scalar.addi c0_i32_552 v596
  v597.toNat
def k0_dev22 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_592 : BitVec 32 := 1#32
  let v645 : BitVec 32 := Scalar.muli v14 c1_i32_592
  let v646 : BitVec 32 := Scalar.addi c0_i32_593 v645
  v646.toNat
def k0_dev23 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_608 : BitVec 32 := 1#32
  let v656 : BitVec 32 := Scalar.muli v25 c1_i32_608
  let v657 : BitVec 32 := Scalar.addi c0_i32_609 v656
  v657.toNat
def k0_dev24 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_649 : BitVec 32 := 1#32
  let v705 : BitVec 32 := Scalar.muli v14 c1_i32_649
  let v706 : BitVec 32 := Scalar.addi c0_i32_650 v705
  v706.toNat
def k0_dev25 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_665 : BitVec 32 := 1#32
  let v716 : BitVec 32 := Scalar.muli v25 c1_i32_665
  let v717 : BitVec 32 := Scalar.addi c0_i32_666 v716
  v717.toNat
def k0_dev26 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_706 : BitVec 32 := 1#32
  let v765 : BitVec 32 := Scalar.muli v14 c1_i32_706
  let v766 : BitVec 32 := Scalar.addi c0_i32_707 v765
  v766.toNat
def k0_dev27 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_722 : BitVec 32 := 1#32
  let v776 : BitVec 32 := Scalar.muli v25 c1_i32_722
  let v777 : BitVec 32 := Scalar.addi c0_i32_723 v776
  v777.toNat
def k0_dev28 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_763 : BitVec 32 := 1#32
  let v825 : BitVec 32 := Scalar.muli v14 c1_i32_763
  let v826 : BitVec 32 := Scalar.addi c0_i32_764 v825
  v826.toNat
def k0_dev29 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_779 : BitVec 32 := 1#32
  let v836 : BitVec 32 := Scalar.muli v25 c1_i32_779
  let v837 : BitVec 32 := Scalar.addi c0_i32_780 v836
  v837.toNat
def k0_dev30 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_820 : BitVec 32 := 1#32
  let v885 : BitVec 32 := Scalar.muli v14 c1_i32_820
  let v886 : BitVec 32 := Scalar.addi c0_i32_821 v885
  v886.toNat
def k0_dev31 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_836 : BitVec 32 := 1#32
  let v896 : BitVec 32 := Scalar.muli v25 c1_i32_836
  let v897 : BitVec 32 := Scalar.addi c0_i32_837 v896
  v897.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Rounds.lean ====
/- The kernel of 01_k as fifteen hops of one program: the text of a hop at a symbolic step, the whole body as its
   prologue, fourteen hops that accumulate and one that finishes, and that the printed body is this program. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-! ## The buffers and semaphores -/

abbrev xM : Memref sig .tc .vmem S4096x256 .fp8e4m3 := Memref.whole cc0_stg0_0
abbrev wM : Memref sig .tc .vmem S256x8192 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S256x8192 .f32 := Memref.whole cc0_stg4_0
abbrev cM : Memref sig .tc .vmem S2x256x8192 .bf16 := Memref.whole cc0_scratch0
abbrev pM : Memref sig .tc .vmem S256x8192 .f32 := Memref.whole cc0_scratch1

theorem inb_slot (p : Fin 2) : ∀ a, (![p.val, 0, 0] : Fin 3 → Nat) a + S1x256x8192.size a ≤ S2x256x8192.size a := by
  revert p; decide
theorem inb_sem (p : Fin 2) : ∀ a, (![p.val] : Fin 1 → Nat) a + S1.size a ≤ S2.size a := by revert p; decide

/-- Slot `p` of the two-slot landing buffer, as a rectangle and as a memref. -/
abbrev slotR (p : Fin 2) : Rect S2x256x8192 := Rect.unit (s := S2x256x8192) ![p.val, 0, 0] S1x256x8192.size (inb_slot p)
abbrev slotM (p : Fin 2) : Memref sig .tc .vmem S256x8192 .bf16 :=
  (cM.slice (slotR p) (fun _ => rfl)).squeeze S256x8192 squeezes_S1x256x8192_S256x8192

theorem slot_packed (p : Fin 2) : (slotR p).PackedRows (EltTy.packing .bf16) :=
  match p with | 0 => packedbf16_S2x256x8192_S1x256x8192_0_0_0 | 1 => packedbf16_S2x256x8192_S1x256x8192_1_0_0
theorem slot_words (p : Fin 2) : (slotM p).view.WordExact :=
  match p with
  | 0 => ((Memref.isWhole_whole cc0_scratch0).wordExact_slice rfl _ wordsbf16_S2x256x8192_S1x256x8192_0_0_0).reshape _ _
  | 1 => ((Memref.isWhole_whole cc0_scratch0).wordExact_slice rfl _ wordsbf16_S2x256x8192_S1x256x8192_1_0_0).reshape _ _

/-- The DMA semaphores a hop of send slot `p` raises at the sender, and of receive slot `q` at the receiver. -/
abbrev sendS (p : Fin 2) : DmaSem sig := ((cc0_scratch2.slice (Rect.unit (s := S2) ![p.val] S1.size (inb_sem p))).squeeze S_ squeezes_S1_S_).sem
abbrev recvS (q : Fin 2) : DmaSem sig := ((cc0_scratch3.slice (Rect.unit (s := S2) ![q.val] S1.size (inb_sem q))).squeeze S_ squeezes_S1_S_).sem
/-- The credit semaphore and the runtime's barrier semaphore. -/
abbrev credS : Sem sig := (cc0_scratch4 : Sems sig S_).sem
abbrev barS : Sem sig := (SemArray.scalar (sig.barrier 0 rfl) : Sems sig S_).sem

/-- The slot a hop sends from at step `s`, and the slot it lands in. -/
abbrev snd (s : ℕ) : Fin 2 := ⟨s % 2, Nat.mod_lt _ (by decide)⟩
abbrev rcv (s : ℕ) : Fin 2 := ⟨(s + 1) % 2, Nat.mod_lt _ (by decide)⟩

/-! ## The program -/

abbrev wholeR : Rect S256x8192 := Rect.unit (s := S256x8192) ![0, 0] S256x8192.size inb_S256x8192_S256x8192_0_0
abbrev pt0 : Rect S1 := Rect.unit (s := S1) ![0] S1.size inb_S1_S1_0

abbrev KProg (F : FTy → Type) [FloatOps F] (α : Type) : Type _ := Prog (TpuEff nD τ sig (Elt F) Λ₀ .tc) α

/-- The row block of `x` at offset `off`, times the block of `w`, stored in the partial buffer. -/
def partialP (off : Fin 2 → ℕ) (hoff : ∀ a, off a + S256x256.size a ≤ S4096x256.size a) : KProg F PUnit := do
  let x : Vec F S256x256 .fp8e4m3 ← Prog.lift (.load xM (Rect.unit (s := S4096x256) off S256x256.size hoff).toLoadRect (View.loadsAt_vmem h_S256x256))
  let w : Vec F S256x8192 .fp8e5m2 ← Prog.lift (.load wM wholeR.toLoadRect (View.loadsAt_vmem h_S256x8192))
  let _o : Vec F S256x8192 .f32 ← Prog.lift (.load pM wholeR.toLoadRect (View.loadsAt_vmem h_S256x8192))
  Prog.lift (.store pM wholeR (k0_pay3 x w) Finset.univ (View.stores_vmem_bits_univ h_S256x8192 rfl) (.inl rfl))

/-- The transfer of step `s`: slot `snd s` to device `n`'s slot `rcv s`. -/
def sendP (s : ℕ) (n : Dev nD) : KProg F PUnit :=
  Prog.lift (.enqueueDma (slotM (snd s)) (.remote (Dev.tc n) (slotM (rcv s)) (.dma (sendS (snd s)))) (.dma (recvS (rcv s)))
    (slot_words (snd s)) (slot_words (rcv s)) ⟨⟨rfl, Or.inl rfl⟩, trivial⟩)

/-- The two waits of step `s`: its transfer read, and its predecessor's landed. -/
def waitP (s : ℕ) : KProg F PUnit := do
  Prog.lift (.waitDma2 (sendS (snd s)) (slotM (rcv s)) (slotM (snd s)) (slot_words (rcv s)) (slot_words (snd s)))
  Prog.lift (.waitDma2 (recvS (rcv s)) (slotM (snd s)) (slotM (rcv s)) (slot_words (snd s)) (slot_words (rcv s)))

/-- The accumulation of step `s`: what landed plus the partial product, back into the slot it landed in. -/
def accP (s : ℕ) : KProg F PUnit := do
  let a : Vec F S1x256x8192 .bf16 ← Prog.lift (.load cM (slotR (rcv s)).toLoadRect (View.loadsAt_vmem h_S1x256x8192))
  let b : Vec F S256x8192 .f32 ← Prog.lift (.load pM wholeR.toLoadRect (View.loadsAt_vmem h_S256x8192))
  let _o : Vec F S1x256x8192 .bf16 ← Prog.lift (.load cM (slotR (rcv s)).toLoadRect (View.loadsAt_vmem h_S1x256x8192))
  Prog.lift (.store cM (slotR (rcv s)) (k0_pay4 a b) Finset.univ
    (View.stores_vmem h_S1x256x8192 ((Memref.isWhole_whole cc0_scratch0).storeExact_slice rfl _ (slot_packed (rcv s))) (fun _ => rfl)) (.inl rfl))

/-- Step `s`, all but the last: send to `n`, the partial product, the waits, the credit to `n'`, the accumulation, the
    credit awaited. -/
def hopP (s : ℕ) (n n' : Dev nD) (off : Fin 2 → ℕ) (hoff : ∀ a, off a + S256x256.size a ≤ S4096x256.size a) : KProg F PUnit := do
  sendP s n
  partialP off hoff
  waitP s
  semSignalWord n' credS 1#32
  accP s
  semWaitWord credS 1#32

/-- The last step's end: what landed plus the partial product, scaled, into the result. -/
def finishP (s : ℕ) : KProg F PUnit := do
  let a : Vec F S1x256x8192 .bf16 ← Prog.lift (.load cM (slotR (rcv s)).toLoadRect (View.loadsAt_vmem h_S1x256x8192))
  let b : Vec F S256x8192 .f32 ← Prog.lift (.load pM wholeR.toLoadRect (View.loadsAt_vmem h_S256x8192))
  let u : Elt F .f32 ← smemLoad sxM pt0 numel1_S1 rfl
  let v : Elt F .f32 ← smemLoad swM pt0 numel1_S1 rfl
  let _o : Vec F S256x8192 .f32 ← Prog.lift (.load oM wholeR.toLoadRect (View.loadsAt_vmem h_S256x8192))
  Prog.lift (.store oM wholeR (k0_pay1 a b u v) Finset.univ (View.stores_vmem_bits_univ h_S256x8192 rfl) (.inl rfl))

/-- The last step: no credit given and none awaited. -/
def lastP (s : ℕ) (n : Dev nD) (off : Fin 2 → ℕ) (hoff : ∀ a, off a + S256x256.size a ≤ S4096x256.size a) : KProg F PUnit := do
  sendP s n
  partialP off hoff
  waitP s
  finishP s

/-- Before the first step: the handshake with both neighbours, and the first partial product into slot 0. -/
def startP (l r : Dev nD) (off : Fin 2 → ℕ) (hoff : ∀ a, off a + S256x256.size a ≤ S4096x256.size a) : KProg F PUnit := do
  semSignalWord l barS 1#32
  semSignalWord r barS 1#32
  semWaitWord barS 2#32
  let x : Vec F S256x256 .fp8e4m3 ← Prog.lift (.load xM (Rect.unit (s := S4096x256) off S256x256.size hoff).toLoadRect (View.loadsAt_vmem h_S256x256))
  let w : Vec F S256x8192 .fp8e5m2 ← Prog.lift (.load wM wholeR.toLoadRect (View.loadsAt_vmem h_S256x8192))
  let _o : Vec F S1x256x8192 .bf16 ← Prog.lift (.load cM (slotR 0).toLoadRect (View.loadsAt_vmem h_S1x256x8192))
  Prog.lift (.store cM (slotR 0) (k0_pay2 x w) Finset.univ
    (View.stores_vmem h_S1x256x8192 ((Memref.isWhole_whole cc0_scratch0).storeExact_slice rfl _ (slot_packed 0)) (fun _ => rfl)) (.inl rfl))

theorem off2_inb (c : Dev nD) (s : ℕ) (hs : s < 15) : ∀ a, k0_off2 c (BitVec.ofNat 32 s) a + S256x256.size a ≤ S4096x256.size a :=
  k0_off2_inb c ⟨s, hs⟩

/-- The first `s` steps on device `c`, the right neighbour as the program computes it once and for all. -/
def hopsP (c : Dev nD) : (s : ℕ) → s ≤ 14 → KProg F PUnit
  | 0, _ => pure ⟨⟩
  | s + 1, h => do
    hopsP c s (Nat.le_of_succ_le h)
    hopP s (⟨k0_dev3 c, k0_dev3_lt c⟩ : Dev nD) (⟨k0_dev4 c, k0_dev4_lt c⟩ : Dev nD) (k0_off2 c (BitVec.ofNat 32 s))
      (off2_inb c s (Nat.lt_of_lt_of_le h (by decide)))

/-- The whole body on device `c`. -/
def ringP (c : Dev nD) : KProg F PUnit := do
  startP (⟨k0_dev1 c, k0_dev1_lt c⟩ : Dev nD) (⟨k0_dev2 c, k0_dev2_lt c⟩ : Dev nD) (k0_off1 c) (k0_off1_inb c)
  hopsP c 14 (Nat.le_refl 14)
  lastP 14 (⟨k0_dev3 c, k0_dev3_lt c⟩ : Dev nD) (k0_off2 c (BitVec.ofNat 32 14)) (off2_inb c 14 (by decide))

set_option maxRecDepth 65536 in
set_option maxHeartbeats 4000000 in
/-- The printed kernel body is this program. -/
theorem body_eq (t : Fin cfg0.N) : bodyAt0 (F := F) t = (Prog.lift .deviceId >>= ringP) := by
  rw [fin_N0 t]
  chain_rfl

end Cert.RingProof

end
-- ==== Proof.Contents.lean ====
/- What the buffers of the ring of 01_k hold, step by step, over any float values: the windows' blocks, a device's partial
   products, and the running sums that travel around the ring. -/
module

public import proofs.«01_k».proof.Proof.Rounds
public import Idealize.ShloMosaic.Lib.Pipeline.Value

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-! ## The ring -/

set_option backward.proofsInPublic true in
/-- The device a device sends to, -/
def nxt (c : Dev nD) : Dev nD := ⟨(c.val + 1) % 16, Nat.mod_lt _ (by decide)⟩
set_option backward.proofsInPublic true in
/-- and the one it receives from. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The devices the program names: its first signal goes to the left neighbour, its second and its transfers to the right,
    its credits to the left. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel

/-- The row block of `x` device `c` multiplies for its `t`-th partial product: its own comes last, at `t = 15`. -/
def chunk (c : Dev nD) (t : ℕ) : Fin 16 := ⟨(c.val + 31 - t) % 16, Nat.mod_lt _ (by decide)⟩

theorem off1_eq (c : Dev nD) : k0_off1 c = ![256 * (chunk c 0).val, 0] := by revert c; decide +kernel
theorem off2_fin : ∀ (c : Dev nD) (s : Fin 15), k0_off2 c (BitVec.ofNat 32 s.val) = ![256 * (chunk c (s.val + 1)).val, 0] := by
  decide +kernel
theorem off2_eq (c : Dev nD) (s : ℕ) (hs : s < 15) : k0_off2 c (BitVec.ofNat 32 s) = ![256 * (chunk c (s + 1)).val, 0] :=
  off2_fin c ⟨s, hs⟩

theorem chunk_last (c : Dev nD) : (chunk c 15).val = c.val := by revert c; decide
/-- The sum that travels keeps its row block: the block a device adds at `t + 1` is the one its left neighbour added at `t`. -/
theorem chunk_succ : ∀ (c : Dev nD) (t : Fin 15), chunk c (t.val + 1) = chunk (prv c) t.val := by decide

/-! ## The contents -/

variable (m : (ℓ : Loc nD τ sig) → Buf (Elt F) ℓ)

/-- Window `w`'s block on device `c`: its whole array, read as launched. -/
def wblk (c : Dev nD) (w : Fin cfg0.W) : ((cfg0.win w).xblock (cfg0.grid.coords t0_0)).Idx → Elt F (cfg0.win w).elt :=
  ((cfg0.win w).blk t0_0).view.read (Elt F) (m ((c : Thread nD τ).loc (Pipeline.arrRef spec0 w)))

def xstg (c : Dev nD) : (cc0_stg0_0 : Ref sig .tc).ty.Contents (Elt F) := wblk m c 0
def wstg (c : Dev nD) : (cc0_stg1_0 : Ref sig .tc).ty.Contents (Elt F) := wblk m c 1
def sxstg (c : Dev nD) : (cc0_stg2_0 : Ref sig .tc).ty.Contents (Elt F) := wblk m c 2
def swstg (c : Dev nD) : (cc0_stg3_0 : Ref sig .tc).ty.Contents (Elt F) := wblk m c 3

theorem inb_rows (j : Fin 16) : ∀ a, (![256 * j.val, 0] : Fin 2 → Nat) a + S256x256.size a ≤ S4096x256.size a := by
  revert j; decide
/-- Row block `j` of the `x` block. -/
abbrev rowR (j : Fin 16) : Rect S4096x256 := Rect.unit (s := S4096x256) ![256 * j.val, 0] S256x256.size (inb_rows j)

def xrow (c : Dev nD) (j : Fin 16) : Vec F S256x256 .fp8e4m3 := (xM : Memref sig .tc .vmem S4096x256 .fp8e4m3).view.readAt (Elt F) (rowR j).toLoadRect (xstg m c)

/-- A block of `x` rows times the block of `w`, both widened to bf16, accumulated in f32. -/
def prod (x : Vec F S256x256 .fp8e4m3) (w : Vec F S256x8192 .fp8e5m2) : FVec F S256x8192 .f32 :=
  matmul dot_S256x256_S256x8192_S256x8192_1_0_0_1_n_n none (extf .bf16 x bitsLt_fp8e4m3_bf16) (extf .bf16 w bitsLt_fp8e5m2_bf16)
    (constant S256x8192 .f32 0x00000000#32)

/-- Device `c`'s partial product of row block `j`. -/
def part (c : Dev nD) (j : Fin 16) : FVec F S256x8192 .f32 := prod (xrow m c j) (wstg m c)

/-- A travelling sum with a partial product added. -/
def accum (a : FVec F S256x8192 .bf16) (b : FVec F S256x8192 .f32) : FVec F S256x8192 .bf16 :=
  truncf .bf16 (addf (extf .f32 a bitsLt_bf16_f32) b) bitsLt_bf16_f32

/-- The sum device `c` sends at step `t`. -/
def acc : ℕ → Dev nD → FVec F S256x8192 .bf16
  | 0, c => truncf .bf16 (part m c (chunk c 0)) bitsLt_bf16_f32
  | t + 1, c => accum (acc t (prv c)) (part m c (chunk c (t + 1)))

theorem S1_pos : 0 < S1.numel := by decide

/-- The result on device `c`: what arrives last plus its own partial product, times the product of the two scales. -/
def outAt (c : Dev nD) : (cc0_stg4_0 : Ref sig .tc).ty.Contents (Elt F) :=
  mulf (addf (extf .f32 (acc m 14 (prv c)) bitsLt_bf16_f32) (part m c (chunk c 15)))
    (broadcast S256x8192 (Scalar.mulf (sxstg m c (Shape.Idx.first (s := S1) S1_pos)) (swstg m c (Shape.Idx.first (s := S1) S1_pos))))

theorem pay3_eq (x : Vec F S256x256 .fp8e4m3) (w : Vec F S256x8192 .fp8e5m2) : k0_pay3 x w = prod x w := by
  unfold k0_pay3 prod; simp only [shapeCast_self]
theorem pay2_eq (x : Vec F S256x256 .fp8e4m3) (w : Vec F S256x8192 .fp8e5m2) :
    k0_pay2 x w = shapeCast S1x256x8192 (truncf .bf16 (prod x w) bitsLt_bf16_f32) shapeCasts_S256x8192_S1x256x8192 := by
  unfold k0_pay2 prod; simp only [shapeCast_self]
theorem pay4_eq (a : Vec F S1x256x8192 .bf16) (b : Vec F S256x8192 .f32) :
    k0_pay4 a b = shapeCast S1x256x8192 (accum (shapeCast S256x8192 a shapeCasts_S1x256x8192_S256x8192) b) shapeCasts_S256x8192_S1x256x8192 := rfl
theorem pay1_eq (a : Vec F S1x256x8192 .bf16) (b : Vec F S256x8192 .f32) (u v : Elt F .f32) :
    k0_pay1 a b u v = mulf (addf (extf .f32 (shapeCast S256x8192 a shapeCasts_S1x256x8192_S256x8192) bitsLt_bf16_f32) b)
      (broadcast S256x8192 (Scalar.mulf u v)) := rfl

/-! ## The two slots -/

/-- A load of slot `p`, its unit axis dropped, is the slot read through its own view; -/
theorem slot_load (p : Fin 2) (f : (cc0_scratch0 : Ref sig .tc).ty.Contents (Elt F)) :
    shapeCast S256x8192 ((cM : Memref sig .tc .vmem S2x256x8192 .bf16).view.readAt (Elt F) (slotR p).toLoadRect f) shapeCasts_S1x256x8192_S256x8192
      = (slotM p).view.read (Elt F) f :=
  (Memref.read_squeeze_slice cM (slotR p) (fun _ => rfl) squeezes_S1x256x8192_S256x8192 shapeCasts_S1x256x8192_S256x8192 f).symm
/-- and after a store of the whole slot its view reads what was stored. -/
theorem slot_store (p : Fin 2) (f : (cc0_scratch0 : Ref sig .tc).ty.Contents (Elt F)) (v : FVec F S256x8192 .bf16) :
    (slotM p).view.read (Elt F) (((cM : Memref sig .tc .vmem S2x256x8192 .bf16).access (slotR p) : View sig .tc _ _ _).write (Elt F) f
      (shapeCast S1x256x8192 v shapeCasts_S256x8192_S1x256x8192) Finset.univ) = v := by
  rw [← slot_load]
  refine (congrArg (fun u => shapeCast S256x8192 u shapeCasts_S1x256x8192_S256x8192)
    (View.read_write_univ (v := ((cM : Memref sig .tc .vmem S2x256x8192 .bf16).access (slotR p) : View sig .tc _ _ _)) f _)).trans ?_
  exact shapeCast_shapeCast _ _ _

end Cert.RingProof

end
-- ==== Proof.Schedule.lean ====
/- The protocol of the ring of 01_k as a schedule of rounds: per semaphore, who pays which round, how much, and what
   the payment hands over.

   A device has six cells. Its barrier cell has one round of two units: the right neighbour's unit hands over that
   neighbour's slot 1, the left neighbour's nothing. Step `s` of the ring pays one round of the sender's send cell of slot `s % 2`
   (the slot back) and one of the receiver's receive cell of slot `(s + 1) % 2` (the slot holding the sender's sum, and that the
   sender has got to step `s`). Round `s` of the credit cell is paid by the right neighbour at its step `s`: it hands over the slot
   that neighbour has just finished sending from, which step `s + 1` lands in. -/
module

public import proofs.«01_k».proof.Proof.Contents
public import Idealize.ShloMosaic.Lib.Pipeline.Launch
public import Idealize.ShloMosaic.Lib.Pipeline.Kit
public import Idealize.ShloMosaic.Lib.Tactic
public import Mathlib.Algebra.BigOperators.Intervals
public import Mathlib.Tactic.Abel

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## The cells -/

abbrev barCell (c : Dev nD) : GSem nD τ sig := ((c : Thread nD τ), .reg barS)
abbrev credCell (c : Dev nD) : GSem nD τ sig := ((c : Thread nD τ), .reg credS)
abbrev sendCell (c : Dev nD) (p : Fin 2) : GSem nD τ sig := ((c : Thread nD τ), .dma (sendS p))
abbrev recvCell (c : Dev nD) (q : Fin 2) : GSem nD τ sig := ((c : Thread nD τ), .dma (recvS q))

/-- What one transfer of a slot counts. -/
abbrev N : ℕ := (slotM 0).view.dmaCredit
theorem N_pos : 0 < N := View.dmaCredit_pos _ (by decide)
theorem credit_eq (p : Fin 2) : (slotM p).view.dmaCredit = N := rfl

theorem cred_ne_bar : (SemLoc.reg credS : SemLoc sig) ≠ .reg barS := by decide
theorem send_ne_bar (p : Fin 2) : (SemLoc.dma (sendS p) : SemLoc sig) ≠ .reg barS := fun h => by cases h
theorem recv_ne_bar (q : Fin 2) : (SemLoc.dma (recvS q) : SemLoc sig) ≠ .reg barS := fun h => by cases h
theorem send_ne_cred (p : Fin 2) : (SemLoc.dma (sendS p) : SemLoc sig) ≠ .reg credS := fun h => by cases h
theorem recv_ne_cred (q : Fin 2) : (SemLoc.dma (recvS q) : SemLoc sig) ≠ .reg credS := fun h => by cases h
theorem send_ne_recv : ∀ p q : Fin 2, (SemLoc.dma (sendS p) : SemLoc sig) ≠ .dma (recvS q) := by decide
theorem send_inj : ∀ p q : Fin 2, (SemLoc.dma (sendS p) : SemLoc sig) = .dma (sendS q) → p = q := by decide
theorem recv_inj : ∀ p q : Fin 2, (SemLoc.dma (recvS p) : SemLoc sig) = .dma (recvS q) → p = q := by decide

/-! ## The payloads -/

/-- Slot `p` of device `c`, reading `v` through its own view. -/
def slotAt (c : Dev nD) (p : Fin 2) (v : FVec F S256x8192 .bf16) : sProp 𝕄 :=
  iprop(∃ f : Buf (Elt F) ((slotM p).view.loc (c : Thread nD τ)), ⌜(slotM p).view.read (Elt F) f = v⌝
    ∗ ((slotM p).view.loc (c : Thread nD τ) ↦[(slotM p).view.set]{fullShare} f))

instance slotAt_storable (c : Dev nD) (p : Fin 2) (v : FVec F S256x8192 .bf16) : BI.Storable (upEmb : UEmb _ 𝕄) (slotAt (F := F) c p v) := by
  unfold slotAt; infer_instance

/-- A free slot of `c`, and that `c` is at round `r` of its receive cell: what a transfer into the slot needs. -/
def freeSlot (c : Dev nD) (p : Fin 2) (r : ℕ) : sProp 𝕄 := iprop((∃ v, slotAt (F := F) c p v) ∗ reached ER (recvCell c p) r)

def barPay (c : Dev nD) : sProp 𝕄 := freeSlot (F := F) (nxt c) 1 0
def credPay (c : Dev nD) (r : ℕ) : sProp 𝕄 := freeSlot (F := F) (nxt c) (snd r) ((r + 1) / 2)
def sendPay (c : Dev nD) (p : Fin 2) : sProp 𝕄 := iprop(∃ v, slotAt (F := F) c p v)
/-- What lands in slot `q` in its round `r`, at step `2 r + (1 - q)`. -/
def recvPay (c : Dev nD) (q : Fin 2) (r : ℕ) : sProp 𝕄 :=
  iprop(slotAt c q (acc m (2 * r + (1 - q.val)) (prv c)) ∗ reached ER (credCell (prv c)) (2 * r + (1 - q.val)))

instance freeSlot_storable (c : Dev nD) (p : Fin 2) (r : ℕ) : BI.Storable (upEmb : UEmb _ 𝕄) (freeSlot (F := F) c p r) := by
  unfold freeSlot; infer_instance
instance barPay_storable (c : Dev nD) : BI.Storable (upEmb : UEmb _ 𝕄) (barPay (F := F) c) := by unfold barPay; infer_instance
instance credPay_storable (c : Dev nD) (r : ℕ) : BI.Storable (upEmb : UEmb _ 𝕄) (credPay (F := F) c r) := by unfold credPay; infer_instance
instance sendPay_storable (c : Dev nD) (p : Fin 2) : BI.Storable (upEmb : UEmb _ 𝕄) (sendPay (F := F) c p) := by unfold sendPay; infer_instance
instance recvPay_storable (c : Dev nD) (q : Fin 2) (r : ℕ) : BI.Storable (upEmb : UEmb _ 𝕄) (recvPay m c q r) := by
  unfold recvPay; infer_instance

/-! ## The schedule -/

/-- How many rounds a semaphore has. -/
def rounds (sm : SemLoc sig) : ℕ :=
  if sm = .reg barS then 1 else if sm = .reg credS then 14
  else if sm = .dma (sendS 0) ∨ sm = .dma (recvS 1) then 8 else if sm = .dma (sendS 1) ∨ sm = .dma (recvS 0) then 7 else 0

def ringRd : Rounds.Schedule (GSem nD τ sig) Bool 𝕄 where
  duties g r := if g.1.2 = .tc ∧ r < rounds g.2 then (if g.2 = .reg barS then Finset.univ else {false}) else ∅
  unitless _ := False
  amount g _ _ := if g.2 = .reg barS then 1 else if g.2 = .reg credS then 1 else N
  payload g r d :=
    if g.2 = .reg barS then (if d then barPay g.1.1 else iprop(emp))
    else if g.2 = .reg credS then credPay g.1.1 r
    else if g.2 = .dma (recvS 0) then recvPay m g.1.1 0 r
    else if g.2 = .dma (recvS 1) then recvPay m g.1.1 1 r
    else if g.2 = .dma (sendS 0) then sendPay g.1.1 0
    else if g.2 = .dma (sendS 1) then sendPay g.1.1 1
    else iprop(emp)
  amount_pos g _ _ _ := by
    split
    · exact Nat.one_pos
    · split
      · exact Nat.one_pos
      · exact N_pos

instance ringRd_payload_storable (g : GSem nD τ sig) (r : ℕ) (d : Bool) :
    BI.Storable (upEmb : UEmb _ 𝕄) ((ringRd (F := F) m).payload g r d) := by
  dsimp only [ringRd]
  (repeat' split) <;> infer_instance

section Facts
variable (c : Dev nD)

theorem rounds_bar : rounds (.reg barS) = 1 := by decide
theorem rounds_cred : rounds (.reg credS) = 14 := by decide
theorem rounds_send : ∀ p : Fin 2, rounds (.dma (sendS p)) = 8 - p.val := by decide
theorem rounds_recv : ∀ q : Fin 2, rounds (.dma (recvS q)) = 7 + q.val := by decide

theorem duties_bar : (ringRd (F := F) m).duties (barCell c) 0 = Finset.univ := by
  dsimp only [ringRd]; rw [if_pos ⟨rfl, by rw [rounds_bar]; decide⟩, if_pos rfl]
theorem duties_cred (r : ℕ) (hr : r < 14) : (ringRd (F := F) m).duties (credCell c) r = {false} := by
  dsimp only [ringRd]; rw [if_pos ⟨rfl, by rw [rounds_cred]; exact hr⟩, if_neg cred_ne_bar]
theorem duties_send (s : ℕ) (hs : s < 15) : (ringRd (F := F) m).duties (sendCell c (snd s)) (s / 2) = {false} := by
  dsimp only [ringRd]; rw [if_pos ⟨rfl, by rw [rounds_send]; dsimp only; omega⟩, if_neg (send_ne_bar _)]
theorem duties_recv (s : ℕ) (hs : s < 15) : (ringRd (F := F) m).duties (recvCell c (rcv s)) (s / 2) = {false} := by
  dsimp only [ringRd]; rw [if_pos ⟨rfl, by rw [rounds_recv]; dsimp only; omega⟩, if_neg (recv_ne_bar _)]
theorem duties_later (g : GSem nD τ sig) (n : ℕ) (hn : rounds g.2 ≤ n) : ∀ r, n ≤ r → (ringRd (F := F) m).duties g r = ∅ :=
  fun r hr => by dsimp only [ringRd]; exact if_neg fun h => by omega

theorem amount_bar (r : ℕ) (d : Bool) : (ringRd (F := F) m).amount (barCell c) r d = 1 := by dsimp only [ringRd]; exact if_pos rfl
theorem amount_cred (r : ℕ) (d : Bool) : (ringRd (F := F) m).amount (credCell c) r d = 1 := by
  dsimp only [ringRd]; rw [if_neg cred_ne_bar, if_pos rfl]
theorem amount_send (p : Fin 2) (r : ℕ) (d : Bool) : (ringRd (F := F) m).amount (sendCell c p) r d = N := by
  dsimp only [ringRd]; rw [if_neg (send_ne_bar p), if_neg (send_ne_cred p)]
theorem amount_recv (q : Fin 2) (r : ℕ) (d : Bool) : (ringRd (F := F) m).amount (recvCell c q) r d = N := by
  dsimp only [ringRd]; rw [if_neg (recv_ne_bar q), if_neg (recv_ne_cred q)]

theorem expect_bar : (ringRd (F := F) m).expect (barCell c) 0 = 2 := by
  unfold Schedule.expect Schedule.amountOf
  rw [duties_bar, Finset.sum_congr rfl fun d _ => amount_bar m c 0 d, Finset.sum_const, Finset.card_univ, Fintype.card_bool, smul_eq_mul]
theorem expect_cred (r : ℕ) (hr : r < 14) : (ringRd (F := F) m).expect (credCell c) r = 1 := by
  unfold Schedule.expect Schedule.amountOf; rw [duties_cred m c r hr, Finset.sum_singleton, amount_cred]
theorem expect_send (s : ℕ) (hs : s < 15) : (ringRd (F := F) m).expect (sendCell c (snd s)) (s / 2) = N := by
  unfold Schedule.expect Schedule.amountOf; rw [duties_send m c s hs, Finset.sum_singleton, amount_send]
theorem expect_recv (s : ℕ) (hs : s < 15) : (ringRd (F := F) m).expect (recvCell c (rcv s)) (s / 2) = N := by
  unfold Schedule.expect Schedule.amountOf; rw [duties_recv m c s hs, Finset.sum_singleton, amount_recv]

theorem payload_bar_true : (ringRd (F := F) m).payload (barCell c) 0 true = barPay c := by dsimp only [ringRd]; rw [if_pos rfl, if_pos rfl]
theorem payload_bar_false : (ringRd (F := F) m).payload (barCell c) 0 false = iprop(emp) := by
  dsimp only [ringRd]; rw [if_pos rfl]; exact if_neg Bool.false_ne_true
theorem payload_cred (r : ℕ) (d : Bool) : (ringRd (F := F) m).payload (credCell c) r d = credPay c r := by
  dsimp only [ringRd]; rw [if_neg cred_ne_bar, if_pos rfl]
theorem payload_send (p : Fin 2) (r : ℕ) (d : Bool) : (ringRd (F := F) m).payload (sendCell c p) r d = sendPay c p := by
  dsimp only [ringRd]
  rw [if_neg (send_ne_bar p), if_neg (send_ne_cred p), if_neg (send_ne_recv p 0), if_neg (send_ne_recv p 1)]
  match p with
  | 0 => exact if_pos rfl
  | 1 => rw [if_neg (fun h => absurd (send_inj 1 0 h) (by decide))]; exact if_pos rfl
theorem payload_recv_slot (q : Fin 2) (r : ℕ) (d : Bool) : (ringRd (F := F) m).payload (recvCell c q) r d = recvPay m c q r := by
  dsimp only [ringRd]
  rw [if_neg (recv_ne_bar q), if_neg (recv_ne_cred q)]
  match q with
  | 0 => exact if_pos rfl
  | 1 => rw [if_neg (fun h => absurd (recv_inj 1 0 h) (by decide))]; exact if_pos rfl
/-- What the transfer of step `s` hands the receiver. -/
theorem payload_recv (s : ℕ) (d : Bool) : (ringRd (F := F) m).payload (recvCell c (rcv s)) (s / 2) d
    = iprop(slotAt c (rcv s) (acc m s (prv c)) ∗ reached ER (credCell (prv c)) s) := by
  rw [payload_recv_slot]; unfold recvPay
  rw [show 2 * (s / 2) + (1 - (rcv s).val) = s by dsimp only; omega]

/-- The rest of a round no duty of which is taken. -/
theorem rest_bar : bigSep ((ringRd (F := F) m).duties (barCell c) 0 \ ∅) (fun d => (ringRd (F := F) m).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_cred (r : ℕ) (hr : r < 14) :
    bigSep ((ringRd (F := F) m).duties (credCell c) r \ ∅) (fun d => (ringRd (F := F) m).payload (credCell c) r d) = credPay c r := by
  rw [Finset.sdiff_empty, duties_cred m c r hr, bigSep_singleton, payload_cred]
theorem rest_send (s : ℕ) (hs : s < 15) :
    bigSep ((ringRd (F := F) m).duties (sendCell c (snd s)) (s / 2) \ ∅) (fun d => (ringRd (F := F) m).payload (sendCell c (snd s)) (s / 2) d) = sendPay c (snd s) := by
  rw [Finset.sdiff_empty, duties_send m c s hs, bigSep_singleton, payload_send]
theorem rest_recv (s : ℕ) (hs : s < 15) :
    bigSep ((ringRd (F := F) m).duties (recvCell c (rcv s)) (s / 2) \ ∅) (fun d => (ringRd (F := F) m).payload (recvCell c (rcv s)) (s / 2) d)
      = iprop(slotAt c (rcv s) (acc m s (prv c)) ∗ reached ER (credCell (prv c)) s) := by
  rw [Finset.sdiff_empty, duties_recv m c s hs, bigSep_singleton, payload_recv]

end Facts

/-! ## What a device owes, and the order of the waits -/

/-- From step `a` on its transfers into the right neighbour's receive cells, from round `b` on its credits to the left. -/
def owed (c : Dev nD) (a b : ℕ) : CellTallies nD τ sig ℕ :=
  (∑ s ∈ Finset.Ico a 15, tallyAt (recvCell (nxt c) (rcv s)) s N) + ∑ r ∈ Finset.Ico b 14, tallyAt (credCell (prv c)) r 1

theorem owed_send (c : Dev nD) (a b : ℕ) (ha : a < 15) : owed c a b = owed c (a + 1) b + tallyAt (recvCell (nxt c) (rcv a)) a N := by
  unfold owed; rw [Finset.sum_eq_sum_Ico_succ_bot ha]; abel
theorem owed_cred (c : Dev nD) (a b : ℕ) (hb : b < 14) : owed c a b = owed c a (b + 1) + tallyAt (credCell (prv c)) b 1 := by
  unfold owed; rw [Finset.sum_eq_sum_Ico_succ_bot hb]; abel
theorem owed_done (c : Dev nD) : owed c 15 14 = 0 := by
  unfold owed; rw [Finset.Ico_self, Finset.Ico_self, Finset.sum_empty, Finset.sum_empty, add_zero]

/-- At launch also a unit to each neighbour's barrier; the left one is paid first. -/
def owed₁ (c : Dev nD) : CellTallies nD τ sig ℕ := owed c 0 0 + tallyAt (barCell (nxt c)) 0 1
def owed₀ (c : Dev nD) : CellTallies nD τ sig ℕ := owed₁ c + tallyAt (barCell (prv c)) 0 1

def lvSet (g : GSem nD τ sig) : Finset ℕ := if g.1.2 = .tc then Finset.range 15 else ∅
/-- The order of the waits: staging and send cells first, the barrier, then receive and credit of each step in turn. -/
def lv (g : GSem nD τ sig) (s : ℕ) : ℕ :=
  if g.2 = .reg barS then 1 else if g.2 = .reg credS then 2 * s + 3 else if g.2 = .dma (recvS 0) ∨ g.2 = .dma (recvS 1) then 2 * s + 2 else 0

theorem lvSet_of_ne (g : GSem nD τ sig) (h : g.1.2 ≠ .tc) : lvSet g = ∅ := if_neg h
theorem mem_lvSet (c : Dev nD) (sm : SemLoc sig) (s : ℕ) (hs : s < 15) : s ∈ lvSet ((c : Thread nD τ), sm) := by
  unfold lvSet; rw [if_pos rfl]; exact Finset.mem_range.mpr hs
theorem lv_bar (c : Dev nD) (s : ℕ) : lv (barCell c) s = 1 := if_pos rfl
theorem lv_cred (c : Dev nD) (s : ℕ) : lv (credCell c) s = 2 * s + 3 := by unfold lv; rw [if_neg cred_ne_bar, if_pos rfl]
theorem lv_recv (c : Dev nD) (q : Fin 2) (s : ℕ) : lv (recvCell c q) s = 2 * s + 2 := by
  unfold lv; rw [if_neg (recv_ne_bar q), if_neg (recv_ne_cred q), if_pos]
  match q with
  | 0 => exact Or.inl rfl
  | 1 => exact Or.inr rfl
theorem lv_dma (c : Dev nD) (q : DmaSem sig) (hq : ∀ p, SemLoc.dma q ≠ .dma (recvS p)) (s : ℕ) : lv ((c : Thread nD τ), .dma q) s = 0 := by
  unfold lv
  rw [if_neg (fun h => by cases h), if_neg (fun h => by cases h), if_neg]
  rintro (h | h)
  · exact hq 0 h
  · exact hq 1 h

theorem owed_pos {c : Dev nD} {a b : ℕ} {g : GSem nD τ sig} {u : ℕ} (h : 0 < owed c a b g u) :
    (∃ s, a ≤ s ∧ s < 15 ∧ g = recvCell (nxt c) (rcv s) ∧ u = s) ∨ (∃ r, b ≤ r ∧ r < 14 ∧ g = credCell (prv c) ∧ u = r) := by
  unfold owed at h
  rw [Pi.add_apply, Finsupp.add_apply, Finset.sum_apply, Finset.sum_apply, Finsupp.finsetSum_apply, Finsupp.finsetSum_apply] at h
  by_contra hn
  rw [not_or] at hn
  rw [Finset.sum_eq_zero fun s hs => by
      rw [tallyAt_apply]; exact if_neg fun e => hn.1 ⟨s, (Finset.mem_Ico.mp hs).1, (Finset.mem_Ico.mp hs).2, e.1, e.2⟩,
    Finset.sum_eq_zero fun s hs => by
      rw [tallyAt_apply]; exact if_neg fun e => hn.2 ⟨s, (Finset.mem_Ico.mp hs).1, (Finset.mem_Ico.mp hs).2, e.1, e.2⟩] at h
  exact Nat.lt_irrefl 0 h

theorem owed₀_pos {c : Dev nD} {g : GSem nD τ sig} {u : ℕ} (h : 0 < owed₀ c g u) :
    0 < owed c 0 0 g u ∨ (g = barCell (nxt c) ∧ u = 0) ∨ (g = barCell (prv c) ∧ u = 0) := by
  unfold owed₀ owed₁ at h
  rw [Pi.add_apply, Finsupp.add_apply, Pi.add_apply, Finsupp.add_apply, tallyAt_apply, tallyAt_apply] at h
  by_contra hn
  rw [not_or, not_or] at hn
  rw [if_neg hn.2.1, if_neg hn.2.2, add_zero, add_zero] at h
  exact hn.1 h

/-- A wait at `(sm, ι)` below everything owed from step `a` and round `b` on. -/
theorem mayWait_owed (c : Dev nD) (sm : SemLoc sig) (ι a b : ℕ) (hι : ι < 15)
    (h1 : lv ((c : Thread nD τ), sm) ι < 2 * a + 2) (h2 : lv ((c : Thread nD τ), sm) ι < 2 * b + 3) :
    (levAts lvSet lv : sProp 𝕄) ⊢ MayWait (c : Thread nD τ) sm ι (owed c a b) :=
  MayOwe.of_cut (L := lvSet) (lev := lv) (lv ((c : Thread nD τ), sm) ι)
    (fun p hp => by rw [Finset.mem_singleton.mp hp]; exact mem_lvSet c sm ι hι)
    (fun g u hg => by
      rcases owed_pos hg with ⟨s, _, hs, rfl, rfl⟩ | ⟨s, _, hs, rfl, rfl⟩
      · exact mem_lvSet _ _ _ hs
      · exact mem_lvSet _ _ _ (by omega))
    (fun p hp => by rw [Finset.mem_singleton.mp hp])
    (fun g u hg => by
      rcases owed_pos hg with ⟨s, _, hs, rfl, rfl⟩ | ⟨s, _, hs, rfl, rfl⟩
      · rw [lv_recv]; omega
      · rw [lv_cred]; omega)

/-- A staging semaphore is waited for below everything. -/
theorem mayWait_stage (c : Dev nD) (q : DmaSem sig) (hq : ∀ p, SemLoc.dma q ≠ .dma (recvS p)) (O : CellTallies nD τ sig ℕ)
    (hO : O = owed₀ c ∨ O = 0) : (levAts lvSet lv : sProp 𝕄) ⊢ MayWait (c : Thread nD τ) (.dma q) 0 O := by
  rcases hO with rfl | rfl
  · refine MayOwe.of_cut (L := lvSet) (lev := lv) 0
      (fun p hp => by rw [Finset.mem_singleton.mp hp]; exact mem_lvSet c _ 0 (by decide)) (fun g u hg => ?_)
      (fun p hp => by rw [Finset.mem_singleton.mp hp]; exact le_of_eq (lv_dma c q hq 0)) (fun g u hg => ?_)
    · rcases owed₀_pos hg with hg | ⟨rfl, rfl⟩ | ⟨rfl, rfl⟩
      · rcases owed_pos hg with ⟨s, _, hs, rfl, rfl⟩ | ⟨s, _, hs, rfl, rfl⟩
        · exact mem_lvSet _ _ _ hs
        · exact mem_lvSet _ _ _ (by omega)
      · exact mem_lvSet _ _ _ (by decide)
      · exact mem_lvSet _ _ _ (by decide)
    · rcases owed₀_pos hg with hg | ⟨rfl, rfl⟩ | ⟨rfl, rfl⟩
      · rcases owed_pos hg with ⟨s, _, hs, rfl, rfl⟩ | ⟨s, _, hs, rfl, rfl⟩
        · rw [lv_recv]; omega
        · rw [lv_cred]; omega
      · rw [lv_bar]; decide
      · rw [lv_bar]; decide
  · rw [MayWait_zero]; iintro -; iempintro

end Cert.RingProof

end
-- ==== Proof.Steps.lean ====
/- The effects of one hop of 01_k's ring, each piece of the program proved once at a symbolic device and a symbolic step:
   the partial product, the transfer, the two waits, the credit given, the accumulation, the credit awaited. -/
module

public import proofs.«01_k».proof.Proof.Schedule

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-- The weakest precondition of a piece of the body on device `c`. -/
abbrev WP (c : Dev nD) {α : Type} (p : KProg F α) (Kt : α → sProp 𝕄) : sProp 𝕄 :=
  wp frame (wpE (defs₀ (F := F)) 𝒱₀ (c : Thread nD τ) none) Set.univ p Kt

/-! ## The cells' invariants -/

/-- The six semaphores of a device's cells. -/
abbrev csem : Fin 6 → SemLoc sig :=
  fun | 0 => .reg barS | 1 => .dma (sendS 0) | 2 => .dma (sendS 1) | 3 => .dma (recvS 0) | 4 => .dma (recvS 1) | 5 => .reg credS
abbrev kcell (ck : Dev nD × Fin 6) : GSem nD τ sig := ((ck.1 : Thread nD τ), csem ck.2)

/-- The invariant of cell `g`, under some name. -/
def hasInv (g : GSem nD τ sig) : sProp 𝕄 := iprop(∃ κ : ℕ, cellInv ER (ringRd m) κ g)
instance hasInv_persistent (g : GSem nD τ sig) : BI.Persistent (hasInv (F := F) m g) := by unfold hasInv; infer_instance

/-- Every cell's invariant. -/
def records : sProp 𝕄 := bigSep Finset.univ fun ck : Dev nD × Fin 6 => hasInv (F := F) m (kcell ck)
instance records_persistent : BI.Persistent (records (F := F) m) := by unfold records; infer_instance

theorem rec_at (ck : Dev nD × Fin 6) : records (F := F) m ⊢ hasInv m (kcell ck) := by
  unfold records; exact bigSep_elim (Finset.mem_univ ck)
theorem rec_bar (d : Dev nD) : records (F := F) m ⊢ hasInv m (barCell d) := rec_at m (d, 0)
theorem rec_cred (d : Dev nD) : records (F := F) m ⊢ hasInv m (credCell d) := rec_at m (d, 5)
theorem rec_send (d : Dev nD) (p : Fin 2) : records (F := F) m ⊢ hasInv m (sendCell d p) :=
  match p with | 0 => rec_at m (d, 1) | 1 => rec_at m (d, 2)
theorem rec_recv (d : Dev nD) (p : Fin 2) : records (F := F) m ⊢ hasInv m (recvCell d p) :=
  match p with | 0 => rec_at m (d, 3) | 1 => rec_at m (d, 4)

/-- What `c` still owes, whatever it has waited for. -/
def owing (c : Dev nD) (O : CellTallies nD τ sig ℕ) : sProp 𝕄 := iprop(∃ W : Waits sig ℕ, owes (c : Thread nD τ) O W)

/-! ## The local buffers -/

abbrev xPts (c : Dev nD) : sProp 𝕄 := ((c : Thread nD τ).loc cc0_stg0_0) ↦{fullShare} xstg m c
abbrev wPts (c : Dev nD) : sProp 𝕄 := ((c : Thread nD τ).loc cc0_stg1_0) ↦{fullShare} wstg m c
/-- The partial buffer at `f`. -/
abbrev pPts (c : Dev nD) (f : Buf (Elt F) ((c : Thread nD τ).loc cc0_scratch1)) : sProp 𝕄 := ((c : Thread nD τ).loc cc0_scratch1) ↦{fullShare} f

theorem hz : (![0, 0] : Fin 2 → Nat) = fun _ => 0 := funext fun a => by fin_cases a <;> rfl

theorem read_w (f : (cc0_stg1_0 : Ref sig .tc).ty.Contents (Elt F)) : (wM : Memref sig .tc .vmem S256x8192 .fp8e5m2).view.readAt (Elt F) wholeR.toLoadRect f = f :=
  Memref.readAt_unit_zero (Elt F) cc0_stg1_0 hz _ f
theorem read_p (f : (cc0_scratch1 : Ref sig .tc).ty.Contents (Elt F)) : (pM : Memref sig .tc .vmem S256x8192 .f32).view.readAt (Elt F) wholeR.toLoadRect f = f :=
  Memref.readAt_unit_zero (Elt F) cc0_scratch1 hz _ f
theorem write_p (f w : (cc0_scratch1 : Ref sig .tc).ty.Contents (Elt F)) :
    ((pM : Memref sig .tc .vmem S256x8192 .f32).access wholeR : View sig .tc _ _ _).write (Elt F) f w Finset.univ = w :=
  Memref.write_access_unit_zero_univ (Elt F) cc0_scratch1 hz _ f w

theorem slot_within : ∀ p : Fin 2, LoadRect.within (slotR p) (slotR p).toLoadRect = true := by decide
/-- A load or a store of slot `p` touches the slot's elements only. -/
theorem slot_load_sub (p : Fin 2) : (cM : Memref sig .tc .vmem S2x256x8192 .bf16).view.setOn (slotR p).toLoadRect.set ⊆ (slotM p).view.set := by
  rw [Memref.set_view_squeeze]
  exact Memref.setOn_subset_slice_of_within cM (slotR p) (fun _ => rfl) (slotR p).toLoadRect (slot_within p)
theorem slot_store_sub (p : Fin 2) :
    ((cM : Memref sig .tc .vmem S2x256x8192 .bf16).access (slotR p)).setOn Finset.univ ⊆ (slotM p).view.set := by
  rw [Memref.set_view_squeeze]
  exact Memref.setOn_access_subset_slice_of_within cM (slotR p) (fun _ => rfl) (slotR p) Finset.univ (slot_within p)

/-- The partial product of row block `j`, into the partial buffer. -/
theorem wp_partial (c : Dev nD) (j : Fin 16) (off : Fin 2 → ℕ) (hoff : ∀ a, off a + S256x256.size a ≤ S4096x256.size a)
    (h : off = ![256 * j.val, 0]) (Kt : PUnit → sProp 𝕄) :
    iprop((xPts m c ∗ wPts m c ∗ ∃ f, pPts c f) ∗ ((xPts m c ∗ wPts m c ∗ pPts c (part m c j)) -∗ Kt ⟨⟩))
      ⊢ WP c (partialP off hoff) Kt := by
  subst h
  unfold partialP
  simp only [Prog.lift, Prog.bind_op, Prog.bind_ret]
  iintro ⟨⟨Hx, Hw, ⟨%f, Hp⟩⟩, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := pM) (Finset.subset_univ _)) $$ Hp; iintro Hp
  iapply (wp_store 𝒱₀ (c : Thread nD τ) none Set.univ (m := pM) (r := wholeR) (Mk := Finset.univ) (Finset.subset_univ _)) $$ Hp; iintro Hp
  rw [write_p, read_w, pay3_eq, wp_ret]; imodintro
  iapply Hk
  isplitl [Hx]; · iexact Hx
  isplitl [Hw]; · iexact Hw
  iexact Hp

/-- What device `c` has to hand to send at step `s`: its slot with its sum, the neighbour's slot free, and the two duties. -/
def sendPre (c : Dev nD) (s : ℕ) : sProp 𝕄 :=
  iprop(slotAt c (snd s) (acc m s c) ∗ freeSlot (F := F) (nxt c) (rcv s) (s / 2) ∗ reached ER (credCell c) s
    ∗ reached ER (sendCell c (snd s)) (s / 2)
    ∗ dutyTok ER (sendCell c (snd s)) (s / 2) false ∗ dutyTok ER (recvCell (nxt c) (rcv s)) (s / 2) false)

/-- A transfer from slot `p` to the right neighbour's slot `q`, paying one duty of either cell. -/
theorem wp_slot_send (c n : Dev nD) (hn : n = nxt c) (p q : Fin 2) (r₁ r₂ ι : ℕ) (v : FVec F S256x8192 .bf16) (R : sProp 𝕄)
    (hd₁ : false ∈ (ringRd m).duties (sendCell c p) r₁) (hd₂ : false ∈ (ringRd m).duties (recvCell (nxt c) q) r₂)
    (hpay : iprop(slotAt (nxt c) q v ∗ R) ⊢ (ringRd m).payload (recvCell (nxt c) q) r₂ false)
    {O₀ : CellTallies nD τ sig ℕ} (O : CellTallies nD τ sig ℕ) (hO : O₀ = O + tallyAt (recvCell (nxt c) q) ι N) (κ₁ κ₂ : ℕ) (W : Waits sig ℕ)
    {hsc : (slotM q).view.ref.isScScratch = false} {hsrc : (slotM p).view.WordExact} {hdst : (slotM q).view.WordExact}
    {hsem : DmaTarget.Typed .vmem (.dma (recvS q)) (.remote (Dev.tc n : Thread nD τ) (slotM q) (.dma (sendS p)) hsc)} (Kt : PUnit → sProp 𝕄) :
    iprop(cellInv ER (ringRd m) κ₁ (sendCell c p) ∗ cellInv ER (ringRd m) κ₂ (recvCell (nxt c) q)
        ∗ slotAt c p v ∗ (∃ v', slotAt (F := F) (nxt c) q v') ∗ R
        ∗ owes (c : Thread nD τ) O₀ W
        ∗ dutyTok ER (sendCell c p) r₁ false ∗ reached ER (sendCell c p) r₁
        ∗ dutyTok ER (recvCell (nxt c) q) r₂ false ∗ reached ER (recvCell (nxt c) q) r₂)
      ⊢ iprop(((cred (tallyAt (sendCell c p) 0 N) ∗ owes (c : Thread nD τ) O W) -∗ WP c (.ret ⟨⟩) Kt)
          -∗ WP c (.op (.enqueueDma (slotM p) (.remote (Dev.tc n : Thread nD τ) (slotM q) (.dma (sendS p)) hsc) (.dma (recvS q)) hsrc hdst hsem) .ret) Kt) := by
  subst hn
  unfold slotAt
  iintro ⟨#HI1, #HI2, ⟨%fs, %hfs, Hs⟩, ⟨%v', ⟨%fd, %hfd, Hd⟩⟩, HR, HO, HtS, #HrS, HtV, #HrV⟩
  iapply (Rounds.wp_send_pointsTo_with 𝒱₀ ER (ringRd m) (c : Thread nD τ) none (κ₁ := κ₁) (κ₂ := κ₂)
    (r₁ := r₁) (r₂ := r₂) (d₁ := false) (d₂ := false) (fd := fd) (fs := fs) (q := fullShare) (F := R)
    hd₁ hd₂ ι 0 N (credit_eq q) (amount_send m c p r₁ false) (amount_recv m (nxt c) q r₂ false) O hO (W := W)
    (by rw [payload_send]; unfold sendPay slotAt
        iintro H; iexists _; iexists fs; isplitr; · (ipureintro; rfl)
        iexact H)
    (by refine BIBase.Entails.trans ?_ hpay
        unfold slotAt
        iintro ⟨H, Hr⟩
        isplitl [H]
        · iexists _; isplitr
          · ipureintro; exact (View.read_write_univ (v := (slotM q).view) fd _).trans hfs
          · iexact H
        · iexact Hr)) $$ [Hs Hd HR HO HtS HtV]
  · isplitr; · iexact HI1
    isplitr; · iexact HI2
    isplitl [Hs]; · iexact Hs
    isplitl [Hd HR]; · isplitl [Hd]; · iexact Hd
                       iexact HR
    isplitl [HO]; · iexact HO
    isplitl [HtS]; · iexact HtS
    isplitr; · iexact HrS
    isplitl [HtV]; · iexact HtV
    iexact HrV

/-- The transfer of step `s`. -/
theorem wp_sendP (c n : Dev nD) (hn : n = nxt c) (s : ℕ) (hs : s < 15) (b : ℕ) (Kt : PUnit → sProp 𝕄) :
    iprop((records m ∗ sendPre m c s ∗ owing c (owed c s b))
        ∗ ((cred (tallyAt (sendCell c (snd s)) 0 N) ∗ owing c (owed c (s + 1) b)) -∗ Kt ⟨⟩))
      ⊢ WP c (sendP s n) Kt := by
  unfold sendP sendPre freeSlot owing
  simp only [Prog.lift]
  iintro ⟨⟨#Hrec, ⟨Hs, ⟨Hd, #HrV⟩, #HrC, #HrS, HtS, HtV⟩, ⟨%W, HO⟩⟩, Hk⟩
  ihave #HI1 := (rec_send m c (snd s)) $$ Hrec
  ihave #HI2 := (rec_recv m (nxt c) (rcv s)) $$ Hrec
  unfold hasInv
  icases HI1 with ⟨%κ₁, HI1⟩
  icases HI2 with ⟨%κ₂, HI2⟩
  iapply (wp_slot_send m c n hn (snd s) (rcv s) (s / 2) (s / 2) s (acc m s c) (reached ER (credCell c) s)
    (by rw [duties_send m c s hs]; exact Finset.mem_singleton_self _) (by rw [duties_recv m (nxt c) s hs]; exact Finset.mem_singleton_self _)
    (by rw [payload_recv, prv_nxt]) (owed c (s + 1) b) (owed_send c s b hs) κ₁ κ₂ W Kt) $$ [Hs Hd HO HtS HtV]
  · isplitr; · iexact HI1
    isplitr; · iexact HI2
    isplitl [Hs]; · iexact Hs
    isplitl [Hd]; · iexact Hd
    isplitr; · iexact HrC
    isplitl [HO]; · iexact HO
    isplitl [HtS]; · iexact HtS
    isplitr; · iexact HrS
    isplitl [HtV]; · iexact HtV
    iexact HrV
  iintro ⟨HcS, HO⟩
  unfold WP; rw [wp_ret]; imodintro
  iapply Hk
  isplitl [HcS]; · iexact HcS
  iexists W; iexact HO

/-- The two waits of step `s`: the sent slot back, and the slot the left neighbour's sum of step `s` is in. -/
theorem wp_waitP (c : Dev nD) (s : ℕ) (hs : s < 15) (Kt : PUnit → sProp 𝕄) :
    iprop((records m ∗ levAts lvSet lv ∗ cred (tallyAt (sendCell c (snd s)) 0 N) ∗ cred (tallyAt (recvCell c (rcv s)) s N)
          ∗ owing c (owed c (s + 1) s) ∗ atPos ER (sendCell c (snd s)) (s / 2) ∅ 0 ∗ atPos ER (recvCell c (rcv s)) (s / 2) ∅ 0)
        ∗ ((owing c (owed c (s + 1) s)
            ∗ (atPos ER (sendCell c (snd s)) (s / 2 + 1) ∅ 0 ∗ reached ER (sendCell c (snd s)) (s / 2 + 1))
            ∗ (atPos ER (recvCell c (rcv s)) (s / 2 + 1) ∅ 0 ∗ reached ER (recvCell c (rcv s)) (s / 2 + 1))
            ∗ (∃ v, slotAt (F := F) c (snd s) v) ∗ slotAt c (rcv s) (acc m s (prv c)) ∗ reached ER (credCell (prv c)) s) -∗ Kt ⟨⟩))
      ⊢ WP c (waitP s) Kt := by
  unfold waitP owing
  simp only [Prog.lift, Prog.bind_op, Prog.bind_ret]
  iintro ⟨⟨#Hrec, #Hlev, HcS, HcV, ⟨%W, HO⟩, HaS, HaV⟩, Hk⟩
  ihave #HI1 := (rec_send m c (snd s)) $$ Hrec
  ihave #HI2 := (rec_recv m c (rcv s)) $$ Hrec
  unfold hasInv
  icases HI1 with ⟨%κ₁, HI1⟩
  icases HI2 with ⟨%κ₂, HI2⟩
  iapply (Rounds.wp_wait_rest_token 𝒱₀ ER (ringRd m) (c : Thread nD τ) none (κ := κ₁)
      (wpE_waitDma2_eq 𝒱₀ (c : Thread nD τ) none Set.univ) (Set.mem_univ _) 0 (O := owed c (s + 1) s) (W := W) (R := s / 2) (m := 0) (T := ∅)
      (by rw [Nat.zero_add, expect_send m c s hs])) $$ [HcS HO HaS]
  · isplitr; · iexact HI1
    isplitl [HcS]; · iexact HcS
    isplitl [HO]; · iexact HO
    isplitr
    · iapply (mayWait_owed c (.dma (sendS (snd s))) 0 (s + 1) s (by decide)
        (by rw [lv_dma c _ (send_ne_recv (snd s)) 0]; omega) (by rw [lv_dma c _ (send_ne_recv (snd s)) 0]; omega))
      iexact Hlev
    iexact HaS
  iintro ⟨HO, HaS, HrS, Hpay⟩
  ihave Hs := (Entails.of_eq (rest_send m c s hs)) $$ Hpay
  iapply (Rounds.wp_wait_rest_token 𝒱₀ ER (ringRd m) (c : Thread nD τ) none (κ := κ₂)
      (wpE_waitDma2_eq 𝒱₀ (c : Thread nD τ) none Set.univ) (Set.mem_univ _) s (O := owed c (s + 1) s) (R := s / 2) (m := 0) (T := ∅)
      (by rw [Nat.zero_add, expect_recv m c s hs])) $$ [HcV HO HaV]
  · isplitr; · iexact HI2
    isplitl [HcV]; · iexact HcV
    isplitl [HO]; · iexact HO
    isplitr
    · iapply (mayWait_owed c (.dma (recvS (rcv s))) s (s + 1) s hs (by rw [lv_recv c (rcv s) s]; omega) (by rw [lv_recv c (rcv s) s]; omega))
      iexact Hlev
    iexact HaV
  iintro ⟨HO, HaV, HrV, Hpay⟩
  ihave Hv := (Entails.of_eq (rest_recv m c s hs)) $$ Hpay
  rw [wp_ret]; imodintro
  iapply Hk
  isplitl [HO]; · iexists _; iexact HO
  isplitl [HaS HrS]; · isplitl [HaS]; · iexact HaS
                       iexact HrS
  isplitl [HaV HrV]; · isplitl [HaV]; · iexact HaV
                       iexact HrV
  isplitl [Hs]; · unfold sendPay; iexact Hs
  iexact Hv

/-- The credit of step `s` to the left neighbour: the slot just sent from is free again. -/
theorem wp_credit (c n : Dev nD) (hn : n = prv c) (s : ℕ) (hs : s < 14) (a : ℕ) (Kt : PUnit → sProp 𝕄) :
    iprop((records m ∗ freeSlot (F := F) c (snd s) ((s + 1) / 2) ∗ reached ER (credCell (prv c)) s ∗ dutyTok ER (credCell (prv c)) s false
          ∗ owing c (owed c a s))
        ∗ (owing c (owed c a (s + 1)) -∗ Kt ⟨⟩))
      ⊢ WP c (semSignalWord n credS 1#32) Kt := by
  subst hn
  unfold owing
  simp only [semSignalWord, Prog.lift]
  iintro ⟨⟨#Hrec, Hfree, #HrC, HtC, ⟨%W, HO⟩⟩, Hk⟩
  ihave #HI := (rec_cred m (prv c)) $$ Hrec
  unfold hasInv
  icases HI with ⟨%κ, HI⟩
  iapply (Rounds.wp_signal 𝒱₀ ER (ringRd m) (c : Thread nD τ) none (dst := (prv c : Thread nD τ)) (κ := κ)
      (d := false) (r := s) (by rw [duties_cred m (prv c) s hs]; exact Finset.mem_singleton_self _) ((amount_cred m (prv c) s false).trans (by decide)) s
      (owed c a (s + 1)) (owed_cred c a s hs)) $$ [HO HtC Hfree]
  · isplitr; · iexact HI
    isplitl [HO]; · iexact HO
    isplitl [HtC]; · iexact HtC
    isplitl [Hfree]; · rw [payload_cred]; unfold credPay; rw [nxt_prv]; iexact Hfree
    iexact HrC
  iintro HO
  rw [wp_ret]; imodintro
  iapply Hk
  iexists W; iexact HO

/-- The accumulation of step `s`: the landed slot holds the sum of step `s + 1`. -/
theorem wp_acc (c : Dev nD) (s : ℕ) (a : FVec F S256x8192 .bf16) (b : FVec F S256x8192 .f32) (Kt : PUnit → sProp 𝕄) :
    iprop((slotAt c (rcv s) a ∗ pPts c b) ∗ ((slotAt c (rcv s) (accum a b) ∗ pPts c b) -∗ Kt ⟨⟩)) ⊢ WP c (accP s) Kt := by
  unfold accP slotAt
  simp only [Prog.lift, Prog.bind_op, Prog.bind_ret]
  iintro ⟨⟨⟨%f, %hf, Hs⟩, Hp⟩, Hk⟩
  iapply (wp_load 𝒱₀ (c : Thread nD τ) none Set.univ (m := cM) (slot_load_sub (rcv s))) $$ Hs; iintro Hs
  iapply (wp_load 𝒱₀ (c : Thread nD τ) none Set.univ (m := pM) (Finset.subset_univ _)) $$ Hp; iintro Hp
  iapply (wp_load 𝒱₀ (c : Thread nD τ) none Set.univ (m := cM) (slot_load_sub (rcv s))) $$ Hs; iintro Hs
  iapply (wp_store 𝒱₀ (c : Thread nD τ) none Set.univ (m := cM) (r := slotR (rcv s)) (Mk := Finset.univ) (slot_store_sub (rcv s))) $$ Hs; iintro Hs
  rw [read_p, pay4_eq, slot_load, hf, wp_ret]; imodintro
  iapply Hk
  isplitl [Hs]
  · iexists _; isplitr; · (ipureintro; exact slot_store (rcv s) f _)
    iexact Hs
  iexact Hp

/-- The credit of step `s` awaited: the right neighbour's slot of step `s + 1` is free. -/
theorem wp_creditWait (c : Dev nD) (s : ℕ) (hs : s < 14) (Kt : PUnit → sProp 𝕄) :
    iprop((records m ∗ levAts lvSet lv ∗ cred (tallyAt (credCell c) s 1) ∗ owing c (owed c (s + 1) (s + 1)) ∗ atPos ER (credCell c) s ∅ 0)
        ∗ ((owing c (owed c (s + 1) (s + 1)) ∗ (atPos ER (credCell c) (s + 1) ∅ 0 ∗ reached ER (credCell c) (s + 1))
            ∗ freeSlot (F := F) (nxt c) (snd s) ((s + 1) / 2)) -∗ Kt ⟨⟩))
      ⊢ WP c (semWaitWord credS 1#32) Kt := by
  unfold owing
  simp only [semWaitWord, Prog.lift]
  iintro ⟨⟨#Hrec, #Hlev, Hc, ⟨%W, HO⟩, Ha⟩, Hk⟩
  ihave #HI := (rec_cred m c) $$ Hrec
  unfold hasInv
  icases HI with ⟨%κ, HI⟩
  iapply (Rounds.wp_wait_rest_token 𝒱₀ ER (ringRd m) (c : Thread nD τ) none (κ := κ)
      (wpE_semWait_eq 𝒱₀ (c : Thread nD τ) none Set.univ) (Set.mem_univ _) s (O := owed c (s + 1) (s + 1)) (W := W) (R := s) (m := 0) (T := ∅)
      (by rw [expect_cred m c s hs]; decide)) $$ [Hc HO Ha]
  · isplitr; · iexact HI
    isplitl [Hc]; · iexact Hc
    isplitl [HO]; · iexact HO
    isplitr
    · iapply (mayWait_owed c (.reg credS) s (s + 1) (s + 1) (by omega) (by rw [lv_cred c s]; omega) (by rw [lv_cred c s]; omega))
      iexact Hlev
    iexact Ha
  iintro ⟨HO, Ha, Hr, Hpay⟩
  ihave Hp := (Entails.of_eq (rest_cred m c s hs)) $$ Hpay
  rw [wp_ret]; imodintro
  iapply Hk
  isplitl [HO]; · iexists _; iexact HO
  isplitl [Ha Hr]; · isplitl [Ha]; · iexact Ha
                     iexact Hr
  unfold credPay; iexact Hp

end Cert.RingProof

end
-- ==== Proof.Ring.lean ====
/- One hop of 01_k's ring takes the state before step `s` to the state before step `s + 1`, and fourteen of them, by induction,
   the state before step 0 to the state before step 14. -/
module

public import proofs.«01_k».proof.Proof.Steps
public import Idealize.SL.BI.BigOpNat

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The state before a step -/

/-- Where `c` stands on its own cells before step `s`, -/
def ringPos (c : Dev nD) (s : ℕ) : sProp 𝕄 :=
  iprop(atPos ER (sendCell c (snd s)) (s / 2) ∅ 0 ∗ atPos ER (sendCell c (rcv s)) ((s + 1) / 2) ∅ 0
    ∗ atPos ER (recvCell c (rcv s)) (s / 2) ∅ 0 ∗ atPos ER (recvCell c (snd s)) ((s + 1) / 2) ∅ 0 ∗ atPos ER (credCell c) s ∅ 0)
/-- and that it has got there. -/
def marks (c : Dev nD) (s : ℕ) : sProp 𝕄 :=
  iprop(reached ER (sendCell c (snd s)) (s / 2) ∗ reached ER (sendCell c (rcv s)) ((s + 1) / 2)
    ∗ reached ER (recvCell c (snd s)) ((s + 1) / 2) ∗ reached ER (credCell c) s)

instance marks_persistent (c : Dev nD) (s : ℕ) : BI.Persistent (marks (F := F) c s) := by unfold marks; infer_instance

/-- The duties of `c`'s transfer of step `s`. -/
def hopTok (c : Dev nD) (s : ℕ) : sProp 𝕄 :=
  iprop(dutyTok ER (sendCell c (snd s)) (s / 2) false ∗ dutyTok ER (recvCell (nxt c) (rcv s)) (s / 2) false)
def giveTok (c : Dev nD) (r : ℕ) : sProp 𝕄 := dutyTok ER (credCell (prv c)) r false
def hopCred (c : Dev nD) (s : ℕ) : sProp 𝕄 := cred (tallyAt (recvCell c (rcv s)) s N)
def giveCred (c : Dev nD) (r : ℕ) : sProp 𝕄 := cred (tallyAt (credCell c) r 1)

/-- The duties `c` has still to pay and the credits it has still to wait with, from step `s` on. -/
def left (c : Dev nD) (s : ℕ) : sProp 𝕄 :=
  iprop(bigSep (Finset.Ico s 15) (hopTok (F := F) c) ∗ bigSep (Finset.Ico s 14) (giveTok (F := F) c)
    ∗ bigSep (Finset.Ico s 15) (hopCred (F := F) c) ∗ bigSep (Finset.Ico s 14) (giveCred (F := F) c))

theorem left_step (c : Dev nD) (s : ℕ) (hs : s < 14) :
    left (F := F) c s ⊢ iprop((hopTok c s ∗ giveTok c s ∗ hopCred c s ∗ giveCred c s) ∗ left (F := F) c (s + 1)) := by
  unfold left
  rw [bigSep_Ico_succ_bot (show s < 15 by omega), bigSep_Ico_succ_bot hs, bigSep_Ico_succ_bot (show s < 15 by omega), bigSep_Ico_succ_bot hs]
  iintro ⟨⟨H1, K1⟩, ⟨H2, K2⟩, ⟨H3, K3⟩, ⟨H4, K4⟩⟩
  isplitl [H1 H2 H3 H4]
  · isplitl [H1]; · iexact H1
    isplitl [H2]; · iexact H2
    isplitl [H3]; · iexact H3
    iexact H4
  isplitl [K1]; · iexact K1
  isplitl [K2]; · iexact K2
  isplitl [K3]; · iexact K3
  iexact K4

/-- The state of device `c` before step `s`: its sum of step `s` in the slot it sends from, the neighbour's slot free. -/
def before (c : Dev nD) (s : ℕ) : sProp 𝕄 :=
  iprop(ringPos (F := F) c s ∗ marks (F := F) c s ∗ slotAt c (snd s) (acc m s c) ∗ freeSlot (F := F) (nxt c) (rcv s) (s / 2)
    ∗ owing c (owed c s s) ∗ left (F := F) c s ∗ xPts m c ∗ wPts m c ∗ ∃ f, pPts c f)

theorem rcv_succ (s : ℕ) : rcv (s + 1) = snd s := Fin.ext (by dsimp only; omega)
theorem half_succ (s : ℕ) : s / 2 + 1 = (s + 1 + 1) / 2 := by omega

/-- One hop. -/
theorem wp_hop (c n n' : Dev nD) (hn : n = nxt c) (hn' : n' = prv c) (s : ℕ) (hs : s < 14) (off : Fin 2 → ℕ)
    (hoff : ∀ a, off a + S256x256.size a ≤ S4096x256.size a) (h : off = ![256 * (chunk c (s + 1)).val, 0]) (Kt : PUnit → sProp 𝕄) :
    iprop((records m ∗ levAts lvSet lv ∗ before m c s) ∗ (before m c (s + 1) -∗ Kt ⟨⟩)) ⊢ WP c (hopP s n n' off hoff) Kt := by
  unfold hopP WP
  simp only [wp_bind]
  iintro ⟨⟨#Hrec, #Hlev, HB⟩, Hk⟩
  unfold before ringPos marks
  icases HB with ⟨⟨HaS, HaS', HaV, HaV', HaC⟩, ⟨#HrS, #HrS', #HrV', #HrC⟩, Hs, Hfree, HO, Hleft, Hx, Hw, Hp⟩
  ihave Hl := (left_step c s hs) $$ Hleft
  icases Hl with ⟨⟨HtH, HtG, HcH, HcG⟩, Hleft⟩
  unfold hopTok giveTok hopCred giveCred
  icases HtH with ⟨HtS, HtV⟩
  iapply (wp_sendP m c n hn s (by omega) s)
  isplitl [Hs Hfree HtS HtV HO]
  · isplitr; · iexact Hrec
    isplitr [HO]
    · unfold sendPre
      isplitl [Hs]; · iexact Hs
      isplitl [Hfree]; · iexact Hfree
      isplitr; · iexact HrC
      isplitr; · iexact HrS
      isplitl [HtS]; · iexact HtS
      iexact HtV
    iexact HO
  iintro ⟨HcS, HO⟩
  iapply (wp_partial m c (chunk c (s + 1)) off hoff h)
  isplitl [Hx Hw Hp]
  · isplitl [Hx]; · iexact Hx
    isplitl [Hw]; · iexact Hw
    iexact Hp
  iintro ⟨Hx, Hw, Hp⟩
  iapply (wp_waitP m c s (by omega))
  isplitl [HcS HcH HO HaS HaV]
  · isplitr; · iexact Hrec
    isplitr; · iexact Hlev
    isplitl [HcS]; · iexact HcS
    isplitl [HcH]; · iexact HcH
    isplitl [HO]; · iexact HO
    isplitl [HaS]; · iexact HaS
    iexact HaV
  iintro ⟨HO, ⟨HaS, #HrS1⟩, ⟨HaV, #HrV1⟩, Hs, Hv, #HrCP⟩
  iapply (wp_credit m c n' hn' s hs (s + 1))
  isplitl [Hs HtG HO]
  · isplitr; · iexact Hrec
    isplitl [Hs]
    · unfold freeSlot
      isplitl [Hs]; · iexact Hs
      iexact HrV'
    isplitr; · iexact HrCP
    isplitl [HtG]; · iexact HtG
    iexact HO
  iintro HO
  iapply (wp_acc c s (acc m s (prv c)) (part m c (chunk c (s + 1))))
  isplitl [Hv Hp]
  · isplitl [Hv]; · iexact Hv
    iexact Hp
  iintro ⟨Hv, Hp⟩
  iapply (wp_creditWait m c s hs)
  isplitl [HcG HO HaC]
  · isplitr; · iexact Hrec
    isplitr; · iexact Hlev
    isplitl [HcG]; · iexact HcG
    isplitl [HO]; · iexact HO
    iexact HaC
  iintro ⟨HO, ⟨HaC, #HrC1⟩, Hfree⟩
  iapply Hk
  rw [rcv_succ s, ← half_succ s]
  isplitl [HaS HaS' HaV HaV' HaC]
  · isplitl [HaS']; · iexact HaS'
    isplitl [HaS]; · iexact HaS
    isplitl [HaV']; · iexact HaV'
    isplitl [HaV]; · iexact HaV
    iexact HaC
  isplitr
  · isplitr; · iexact HrS'
    isplitr; · iexact HrS1
    isplitr; · iexact HrV1
    iexact HrC1
  isplitl [Hv]; · iexact Hv
  isplitl [Hfree]; · iexact Hfree
  isplitl [HO]; · iexact HO
  isplitl [Hleft]; · iexact Hleft
  isplitl [Hx]; · iexact Hx
  isplitl [Hw]; · iexact Hw
  iexists _; iexact Hp

/-- The first `s` hops. -/
theorem wp_hops (c : Dev nD) : ∀ (s : ℕ) (h : s ≤ 14) (Kt : PUnit → sProp 𝕄),
    iprop((records m ∗ levAts lvSet lv ∗ before m c 0) ∗ (before m c s -∗ Kt ⟨⟩)) ⊢ WP c (hopsP c s h) Kt
  | 0, _, Kt => by
    unfold hopsP WP
    rw [Prog.pure_eq_ret, wp_ret]
    iintro ⟨⟨-, -, HB⟩, Hk⟩
    imodintro
    iapply Hk; iexact HB
  | s + 1, h, Kt => by
    unfold hopsP WP
    rw [wp_bind]
    iintro ⟨⟨#Hrec, #Hlev, HB⟩, Hk⟩
    iapply (wp_hops c s (Nat.le_of_succ_le h))
    isplitl [HB]
    · isplitr; · iexact Hrec
      isplitr; · iexact Hlev
      iexact HB
    iintro HB
    iapply (wp_hop m c _ _ (dev3_eq c) (dev4_eq c) s (by omega) _ _ (off2_eq c s (by omega)))
    isplitl [HB]
    · isplitr; · iexact Hrec
      isplitr; · iexact Hlev
      iexact HB
    iexact Hk

end Cert.RingProof

end
-- ==== Proof.Ends.lean ====
/- The two ends of 01_k's body: the handshake and the first partial product establish the state before step 0, and the last
   step ends with the result stored, every cell closed and nothing owed. -/
module

public import proofs.«01_k».proof.Proof.Ring

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The start -/

/-- The two slots of device `c`, at any contents. -/
def slots (c : Dev nD) : sProp 𝕄 := iprop((∃ v, slotAt (F := F) c 0 v) ∗ ∃ v, slotAt (F := F) c 1 v)

/-- The ghost state device `c` starts from. -/
def ghost (c : Dev nD) : sProp 𝕄 :=
  iprop(records m ∗ levAts lvSet lv ∗ atPos ER (barCell c) 0 ∅ 0 ∗ ringPos (F := F) c 0
    ∗ (marks (F := F) c 0 ∗ reached ER (recvCell c 1) 0 ∗ reached ER (barCell (prv c)) 0 ∗ reached ER (barCell (nxt c)) 0)
    ∗ (dutyTok ER (barCell (prv c)) 0 true ∗ dutyTok ER (barCell (nxt c)) 0 false ∗ cred (tallyAt (barCell c) 0 2)) ∗ left (F := F) c 0)

/-- The handshake and the first partial product. -/
theorem wp_start (c l r : Dev nD) (hl : l = prv c) (hr : r = nxt c) (off : Fin 2 → ℕ) (hoff : ∀ a, off a + S256x256.size a ≤ S4096x256.size a)
    (h : off = ![256 * (chunk c 0).val, 0]) (Kt : PUnit → sProp 𝕄) :
    iprop((ghost m c ∗ slots (F := F) c ∗ owing c (owed₀ c) ∗ xPts m c ∗ wPts m c ∗ ∃ f, pPts c f)
        ∗ ((before m c 0 ∗ atPos ER (barCell c) 1 ∅ 0) -∗ Kt ⟨⟩))
      ⊢ WP c (startP l r off hoff) Kt := by
  subst hl hr h
  unfold startP
  simp only [semSignalWord, semWaitWord, Prog.lift, Prog.bind_op, Prog.bind_ret]
  unfold ghost slots owing
  iintro ⟨⟨⟨#Hrec, #Hlev, HaB, Hpos, ⟨#Hm, #HrV, #HrBP, #HrBN⟩, ⟨HtP, HtN, HcB⟩, Hleft⟩, ⟨⟨%v0, Hs0⟩, Hs1⟩, ⟨%W, HO⟩, Hx, Hw, Hp⟩, Hk⟩
  ihave #HI := (rec_bar m c) $$ Hrec
  ihave #HIP := (rec_bar m (prv c)) $$ Hrec
  ihave #HIN := (rec_bar m (nxt c)) $$ Hrec
  unfold hasInv
  icases HI with ⟨%κ, HI⟩
  icases HIP with ⟨%κp, HIP⟩
  icases HIN with ⟨%κn, HIN⟩
  -- the signal to the left: slot 1 is free
  iapply (Rounds.wp_signal 𝒱₀ ER (ringRd m) (c : Thread nD τ) none (dst := (prv c : Thread nD τ)) (κ := κp)
      (d := true) (by rw [duties_bar]; exact Finset.mem_univ _) ((amount_bar m (prv c) 0 true).trans (by decide)) 0 (owed₁ c) rfl)
    $$ [HO HtP Hs1]
  · isplitr; · iexact HIP
    isplitl [HO]; · iexact HO
    isplitl [HtP]; · iexact HtP
    isplitl [Hs1]
    · rw [payload_bar_true]; unfold barPay freeSlot; rw [nxt_prv]
      isplitl [Hs1]; · iexact Hs1
      iexact HrV
    iexact HrBP
  iintro HO
  -- the signal to the right
  iapply (Rounds.wp_signal 𝒱₀ ER (ringRd m) (c : Thread nD τ) none (dst := (nxt c : Thread nD τ)) (κ := κn)
      (d := false) (by rw [duties_bar]; exact Finset.mem_univ _) ((amount_bar m (nxt c) 0 false).trans (by decide)) 0 (owed c 0 0) rfl)
    $$ [HO HtN]
  · isplitr; · iexact HIN
    isplitl [HO]; · iexact HO
    isplitl [HtN]; · iexact HtN
    isplitr; · rw [payload_bar_false]; iempintro
    iexact HrBN
  iintro HO
  -- both neighbours' units: the right neighbour's slot 1 is free
  iapply (Rounds.wp_wait_rest_token 𝒱₀ ER (ringRd m) (c : Thread nD τ) none (κ := κ)
      (wpE_semWait_eq 𝒱₀ (c : Thread nD τ) none Set.univ) (Set.mem_univ _) 0 (O := owed c 0 0) (W := W) (R := 0) (m := 0) (T := ∅)
      (by rw [expect_bar]; decide)) $$ [HcB HO HaB]
  · isplitr; · iexact HI
    isplitl [HcB]; · iexact HcB
    isplitl [HO]; · iexact HO
    isplitr
    · iapply (mayWait_owed c (.reg barS) 0 0 0 (by decide) (by rw [lv_bar c 0]; decide) (by rw [lv_bar c 0]; decide))
      iexact Hlev
    iexact HaB
  iintro ⟨HO, HaB, -, Hpay⟩
  ihave Hb := (Entails.of_eq (rest_bar m c)) $$ Hpay
  icases Hb with ⟨-, Hfree⟩
  -- the first partial product, into slot 0
  unfold slotAt
  icases Hs0 with ⟨%f, %hf, Hs⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := cM) (slot_load_sub 0)) $$ Hs; iintro Hs
  iapply (wp_store 𝒱₀ (c : Thread nD τ) none Set.univ (m := cM) (r := slotR 0) (Mk := Finset.univ) (slot_store_sub 0)) $$ Hs; iintro Hs
  rw [read_w, pay2_eq, wp_ret]; imodintro
  iapply Hk
  isplitr [HaB]
  · unfold before owing
    isplitl [Hpos]; · iexact Hpos
    isplitr; · iexact Hm
    isplitl [Hs]
    · unfold slotAt
      iexists _; isplitr; · (ipureintro; exact slot_store 0 f _)
      iexact Hs
    isplitl [Hfree]; · unfold barPay; iexact Hfree
    isplitl [HO]; · iexists _; iexact HO
    isplitl [Hleft]; · iexact Hleft
    isplitl [Hx]; · iexact Hx
    isplitl [Hw]; · iexact Hw
    iexact Hp
  iexact HaB

/-! ## The end -/

abbrev sxPts (c : Dev nD) : sProp 𝕄 := ((c : Thread nD τ).loc cc0_stg2_0) ↦{fullShare} sxstg m c
abbrev swPts (c : Dev nD) : sProp 𝕄 := ((c : Thread nD τ).loc cc0_stg3_0) ↦{fullShare} swstg m c
abbrev oPts (c : Dev nD) (f : Buf (Elt F) ((c : Thread nD τ).loc cc0_stg4_0)) : sProp 𝕄 := ((c : Thread nD τ).loc cc0_stg4_0) ↦{fullShare} f

theorem hz1 : (![0] : Fin 1 → Nat) = fun _ => 0 := funext fun a => by fin_cases a; rfl
theorem read_sx (f : (cc0_stg2_0 : Ref sig .tc).ty.Contents (Elt F)) : (sxM : Memref sig .tc .smem S1 .f32).view.readAt (Elt F) pt0.toLoadRect f = f :=
  Memref.readAt_unit_zero (Elt F) cc0_stg2_0 hz1 _ f
theorem read_sw (f : (cc0_stg3_0 : Ref sig .tc).ty.Contents (Elt F)) : (swM : Memref sig .tc .smem S1 .f32).view.readAt (Elt F) pt0.toLoadRect f = f :=
  Memref.readAt_unit_zero (Elt F) cc0_stg3_0 hz1 _ f
theorem write_o (f w : (cc0_stg4_0 : Ref sig .tc).ty.Contents (Elt F)) :
    ((oM : Memref sig .tc .vmem S256x8192 .f32).access wholeR : View sig .tc _ _ _).write (Elt F) f w Finset.univ = w :=
  Memref.write_access_unit_zero_univ (Elt F) cc0_stg4_0 hz _ f w

/-- The final sum, scaled, into the result. -/
theorem wp_finish (c : Dev nD) (s : ℕ) (a : FVec F S256x8192 .bf16) (b : FVec F S256x8192 .f32) (Kt : PUnit → sProp 𝕄) :
    iprop((slotAt c (rcv s) a ∗ pPts c b ∗ sxPts m c ∗ swPts m c ∗ ∃ f, oPts c f)
        ∗ ((slotAt c (rcv s) a ∗ pPts c b ∗ sxPts m c ∗ swPts m c
            ∗ oPts c (mulf (addf (extf .f32 a bitsLt_bf16_f32) b)
                (broadcast S256x8192 (Scalar.mulf (sxstg m c (Shape.Idx.first (s := S1) S1_pos)) (swstg m c (Shape.Idx.first (s := S1) S1_pos))))))
            -∗ |={Set.univ}[frame]=> Kt ⟨⟩))
      ⊢ WP c (finishP s) Kt := by
  unfold finishP slotAt
  simp only [smemLoad, Prog.lift, Prog.bind_op, Prog.bind_ret]
  iintro ⟨⟨⟨%f, %hf, Hs⟩, Hp, Hsx, Hsw, ⟨%g, Ho⟩⟩, Hk⟩
  iapply (wp_load 𝒱₀ (c : Thread nD τ) none Set.univ (m := cM) (slot_load_sub (rcv s))) $$ Hs; iintro Hs
  iapply (wp_load 𝒱₀ (c : Thread nD τ) none Set.univ (m := pM) (Finset.subset_univ _)) $$ Hp; iintro Hp
  iapply (wp_load 𝒱₀ (c : Thread nD τ) none Set.univ (m := sxM) (Finset.subset_univ _)) $$ Hsx; iintro Hsx
  iapply (wp_load 𝒱₀ (c : Thread nD τ) none Set.univ (m := swM) (Finset.subset_univ _)) $$ Hsw; iintro Hsw
  iapply (wp_load 𝒱₀ (c : Thread nD τ) none Set.univ (m := oM) (Finset.subset_univ _)) $$ Ho; iintro Ho
  iapply (wp_store 𝒱₀ (c : Thread nD τ) none Set.univ (m := oM) (r := wholeR) (Mk := Finset.univ) (Finset.subset_univ _)) $$ Ho; iintro Ho
  rw [write_o, read_p, read_sx, read_sw, pay1_eq, slot_load, hf, wp_ret]
  iapply Hk
  isplitl [Hs]
  · iexists f; isplitr; · (ipureintro; exact hf)
    iexact Hs
  isplitl [Hp]; · iexact Hp
  isplitl [Hsx]; · iexact Hsx
  isplitl [Hsw]; · iexact Hsw
  iexact Ho

/-- Every cell of device `c` at zero. -/
def zeros (c : Dev nD) : sProp 𝕄 :=
  iprop(semVal (barCell c) 0 ∗ semVal (sendCell c 0) 0 ∗ semVal (sendCell c 1) 0 ∗ semVal (recvCell c 0) 0 ∗ semVal (recvCell c 1) 0 ∗ semVal (credCell c) 0)

/-- A cell whose rounds are all done is closed. -/
theorem close (g : GSem nD τ sig) (R : ℕ) (hR : rounds g.2 ≤ R) :
    iprop(hasInv m g ∗ atPos ER g R ∅ 0) ⊢ iprop(|={Set.univ}[frame]=> (semVal g 0 : sProp 𝕄)) := by
  unfold hasInv
  iintro ⟨⟨%κ, #HI⟩, Ha⟩
  imod (Rounds.cell_close ER (ringRd m) (Set.mem_univ κ) (fun h => h) (R := R) (duties_later m g R hR)) $$ [Ha] with Hz
  · isplitr; · iexact HI
    iexact Ha
  imodintro; iexact Hz

/-- The last step: the result stored, the cells closed, the two slots back. -/
theorem wp_last (c n : Dev nD) (hn : n = nxt c) (off : Fin 2 → ℕ) (hoff : ∀ a, off a + S256x256.size a ≤ S4096x256.size a)
    (h : off = ![256 * (chunk c 15).val, 0]) (Kt : PUnit → sProp 𝕄) :
    iprop((records m ∗ levAts lvSet lv ∗ before m c 14 ∗ atPos ER (barCell c) 1 ∅ 0 ∗ sxPts m c ∗ swPts m c ∗ ∃ f, oPts c f)
        ∗ ((owing c 0 ∗ zeros (F := F) c ∗ slots (F := F) c ∗ xPts m c ∗ wPts m c ∗ (∃ f, pPts c f) ∗ sxPts m c ∗ swPts m c ∗ oPts c (outAt m c)) -∗ Kt ⟨⟩))
      ⊢ WP c (lastP 14 n off hoff) Kt := by
  unfold lastP WP
  simp only [wp_bind]
  iintro ⟨⟨#Hrec, #Hlev, HB, HaB, Hsx, Hsw, Ho⟩, Hk⟩
  unfold before ringPos marks left
  icases HB with ⟨⟨HaS, HaS', HaV, HaV', HaC⟩, ⟨#HrS, #HrS', #HrV', #HrC⟩, Hs, Hfree, HO, ⟨Ht, -, Hc, -⟩, Hx, Hw, Hp⟩
  ihave Ht1 := (Entails.of_eq (bigSep_Ico_one 14 (hopTok (F := F) c))) $$ Ht
  ihave Hc1 := (Entails.of_eq (bigSep_Ico_one 14 (hopCred (F := F) c))) $$ Hc
  unfold hopTok hopCred
  icases Ht1 with ⟨HtS, HtV⟩
  iapply (wp_sendP m c n hn 14 (by decide) 14)
  isplitl [Hs Hfree HtS HtV HO]
  · isplitr; · iexact Hrec
    isplitr [HO]
    · unfold sendPre
      isplitl [Hs]; · iexact Hs
      isplitl [Hfree]; · iexact Hfree
      isplitr; · iexact HrC
      isplitr; · iexact HrS
      isplitl [HtS]; · iexact HtS
      iexact HtV
    iexact HO
  iintro ⟨HcS, HO⟩
  iapply (wp_partial m c (chunk c 15) off hoff h)
  isplitl [Hx Hw Hp]
  · isplitl [Hx]; · iexact Hx
    isplitl [Hw]; · iexact Hw
    iexact Hp
  iintro ⟨Hx, Hw, Hp⟩
  iapply (wp_waitP m c 14 (by decide))
  isplitl [HcS Hc1 HO HaS HaV]
  · isplitr; · iexact Hrec
    isplitr; · iexact Hlev
    isplitl [HcS]; · iexact HcS
    isplitl [Hc1]; · iexact Hc1
    isplitl [HO]; · iexact HO
    isplitl [HaS]; · iexact HaS
    iexact HaV
  iintro ⟨HO, ⟨HaS, -⟩, ⟨HaV, -⟩, Hs, Hv, -⟩
  iapply (wp_finish m c 14 (acc m 14 (prv c)) (part m c (chunk c 15)))
  isplitl [Hv Hp Hsx Hsw Ho]
  · isplitl [Hv]; · iexact Hv
    isplitl [Hp]; · iexact Hp
    isplitl [Hsx]; · iexact Hsx
    isplitl [Hsw]; · iexact Hsw
    iexact Ho
  iintro ⟨Hv, Hp, Hsx, Hsw, Ho⟩
  ihave #HI0 := (rec_bar m c) $$ Hrec
  ihave #HI1 := (rec_send m c 0) $$ Hrec
  ihave #HI2 := (rec_send m c 1) $$ Hrec
  ihave #HI3 := (rec_recv m c 0) $$ Hrec
  ihave #HI4 := (rec_recv m c 1) $$ Hrec
  ihave #HI5 := (rec_cred m c) $$ Hrec
  imod (close m (barCell c) 1 rounds_bar.le) $$ [HaB] with Z0
  · isplitr; · iexact HI0
    iexact HaB
  imod (close m (sendCell c 0) 8 (rounds_send 0).le) $$ [HaS] with Z1
  · isplitr; · iexact HI1
    iexact HaS
  imod (close m (sendCell c 1) 7 (rounds_send 1).le) $$ [HaS'] with Z2
  · isplitr; · iexact HI2
    iexact HaS'
  imod (close m (recvCell c 0) 7 (rounds_recv 0).le) $$ [HaV'] with Z3
  · isplitr; · iexact HI3
    iexact HaV'
  imod (close m (recvCell c 1) 8 (rounds_recv 1).le) $$ [HaV] with Z4
  · isplitr; · iexact HI4
    iexact HaV
  imod (close m (credCell c) 14 rounds_cred.le) $$ [HaC] with Z5
  · isplitr; · iexact HI5
    iexact HaC
  imodintro
  iapply Hk
  isplitl [HO]; · rw [← owed_done c]; iexact HO
  isplitl [Z0 Z1 Z2 Z3 Z4 Z5]
  · unfold zeros
    isplitl [Z0]; · iexact Z0
    isplitl [Z1]; · iexact Z1
    isplitl [Z2]; · iexact Z2
    isplitl [Z3]; · iexact Z3
    isplitl [Z4]; · iexact Z4
    iexact Z5
  isplitl [Hs Hv]
  · unfold slots
    isplitl [Hs]; · iexact Hs
    iexists _; iexact Hv
  isplitl [Hx]; · iexact Hx
  isplitl [Hw]; · iexact Hw
  isplitl [Hp]; · iexists _; iexact Hp
  isplitl [Hsx]; · iexact Hsx
  isplitl [Hsw]; · iexact Hsw
  unfold outAt; iexact Ho

/-- The whole body on device `c`. -/
theorem wp_ring (c : Dev nD) (Kt : PUnit → sProp 𝕄) :
    iprop((ghost m c ∗ slots (F := F) c ∗ owing c (owed₀ c) ∗ xPts m c ∗ wPts m c ∗ (∃ f, pPts c f) ∗ sxPts m c ∗ swPts m c ∗ ∃ f, oPts c f)
        ∗ ((owing c 0 ∗ zeros (F := F) c ∗ slots (F := F) c ∗ xPts m c ∗ wPts m c ∗ (∃ f, pPts c f) ∗ sxPts m c ∗ swPts m c ∗ oPts c (outAt m c)) -∗ Kt ⟨⟩))
      ⊢ WP c (ringP c) Kt := by
  unfold ringP WP
  simp only [wp_bind]
  iintro ⟨⟨Hg, Hs, HO, Hx, Hw, Hp, Hsx, Hsw, Ho⟩, Hk⟩
  unfold ghost
  icases Hg with ⟨#Hrec, #Hlev, Hg⟩
  iapply (wp_start m c _ _ (dev1_eq c) (dev2_eq c) _ _ (off1_eq c))
  isplitl [Hg Hs HO Hx Hw Hp]
  · isplitl [Hg]
    · unfold ghost
      isplitr; · iexact Hrec
      isplitr; · iexact Hlev
      iexact Hg
    isplitl [Hs]; · iexact Hs
    isplitl [HO]; · iexact HO
    isplitl [Hx]; · iexact Hx
    isplitl [Hw]; · iexact Hw
    iexact Hp
  iintro ⟨HB, HaB⟩
  iapply (wp_hops m c 14 (Nat.le_refl 14))
  isplitl [HB]
  · isplitr; · iexact Hrec
    isplitr; · iexact Hlev
    iexact HB
  iintro HB
  iapply (wp_last m c _ (dev3_eq c) _ _ (off2_eq c 14 (by decide)))
  isplitl [HB HaB Hsx Hsw Ho]
  · isplitr; · iexact Hrec
    isplitr; · iexact Hlev
    isplitl [HB]; · iexact HB
    isplitl [HaB]; · iexact HaB
    isplitl [Hsx]; · iexact Hsx
    isplitl [Hsw]; · iexact Hsw
    iexact Ho
  iexact Hk

end Cert.RingProof

end
-- ==== Proof.Deal.lean ====
/- The ghost state of 01_k's ring at launch: the cells and duty tokens minted, the tokens dealt to the devices that pay with them,
   the invariants allocated for every device under one update, and the launch's credits. -/
module

public import proofs.«01_k».proof.Proof.Ends
public import Idealize.ShloMosaic.Lib.Ring

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The cells and the tokens minted -/

theorem kcell_injective : Function.Injective (kcell : Dev nD × Fin 6 → GSem nD τ sig) := by
  rintro ⟨c, k⟩ ⟨c', k'⟩ h
  have h1 : c = c' := congrArg (fun g : GSem nD τ sig => g.1.1) h
  have h2 : k = k' := (by decide : Function.Injective csem) (congrArg Prod.snd h)
  rw [h1, h2]
def ringCells : Finset (GSem nD τ sig) := Finset.univ.map ⟨kcell, kcell_injective⟩

/-- The duty of kind `k` at step `s`, less the device: the barrier's two, the transfer's two, the credit's. -/
abbrev dutyOf (ks : Fin 5 × Fin 15) : SemLoc sig × ℕ × Bool := match ks.1 with
  | 0 => (.reg barS, ks.2.val, false) | 1 => (.reg barS, ks.2.val, true) | 2 => (.dma (sendS (snd ks.2.val)), ks.2.val / 2, false)
  | 3 => (.dma (recvS (rcv ks.2.val)), ks.2.val / 2, false) | 4 => (.reg credS, ks.2.val, false)
/-- The kind and the step, read off the duty. -/
def stepOf (x : SemLoc sig × ℕ × Bool) : ℕ × ℕ :=
  if x.1 = .reg barS then (if x.2.2 then (1, x.2.1) else (0, x.2.1)) else if x.1 = .reg credS then (4, x.2.1)
  else if x.1 = .dma (sendS 0) then (2, 2 * x.2.1) else if x.1 = .dma (sendS 1) then (2, 2 * x.2.1 + 1)
  else if x.1 = .dma (recvS 1) then (3, 2 * x.2.1) else (3, 2 * x.2.1 + 1)
theorem stepOf_dutyOf : ∀ ks : Fin 5 × Fin 15, stepOf (dutyOf ks) = (ks.1.val, ks.2.val) := by decide +kernel
theorem dutyOf_injective : Function.Injective dutyOf := fun a b h => by
  have e := congrArg stepOf h
  rw [stepOf_dutyOf, stepOf_dutyOf] at e
  exact Prod.ext (Fin.ext (congrArg Prod.fst e)) (Fin.ext (congrArg Prod.snd e))

abbrev tokOf (x : Dev nD × (Fin 5 × Fin 15)) : GSem nD τ sig × ℕ × Bool := (((x.1 : Thread nD τ), (dutyOf x.2).1), (dutyOf x.2).2)
theorem tokOf_injective : Function.Injective tokOf := fun a b h => by
  have h1 : a.1 = b.1 := congrArg (fun x : GSem nD τ sig × ℕ × Bool => x.1.1.1) h
  have h2 : dutyOf a.2 = dutyOf b.2 :=
    Prod.ext (congrArg (fun x : GSem nD τ sig × ℕ × Bool => x.1.2) h) (congrArg (fun x : GSem nD τ sig × ℕ × Bool => x.2) h)
  exact Prod.ext h1 (dutyOf_injective h2)
def ringToks : Finset (GSem nD τ sig × ℕ × Bool) := Finset.univ.map ⟨tokOf, tokOf_injective⟩

/-- The tokens of device `c`'s own cells, kind by kind. -/
def barToks (b : Bool) (c : Dev nD) : sProp 𝕄 := bigSep (Finset.range 15) fun s => dutyTok ER (barCell c) s b
def sendToks (c : Dev nD) : sProp 𝕄 := bigSep (Finset.range 15) fun s => dutyTok ER (sendCell c (snd s)) (s / 2) false
def recvToks (c : Dev nD) : sProp 𝕄 := bigSep (Finset.range 15) fun s => dutyTok ER (recvCell c (rcv s)) (s / 2) false
def credToks (c : Dev nD) : sProp 𝕄 := bigSep (Finset.range 15) fun s => dutyTok ER (credCell c) s false
def toks (c : Dev nD) : sProp 𝕄 := iprop(barToks (F := F) false c ∗ barToks (F := F) true c ∗ sendToks (F := F) c ∗ recvToks (F := F) c ∗ credToks (F := F) c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin15 (Φ : ℕ → sProp 𝕄) : bigSep Finset.univ (fun s : Fin 15 => Φ s.val) = bigSep (Finset.range 15) Φ :=
  Ring.bigSep_fin_eq_range 15 (fun s : Fin 15 => Φ s.val) Φ fun _ _ => rfl

theorem ringToks_eq : bigSep ringToks (fun x => (dutyTok ER x.1 x.2.1 x.2.2 : sProp 𝕄)) = bigSep Finset.univ fun c : Dev nD => toks (F := F) c := by
  unfold ringToks; rw [bigSep_map, bigSep_univ_prod]
  refine bigSep_congr fun c _ => ?_
  rw [bigSep_univ_prod, bigSep_fin5]
  unfold toks barToks sendToks recvToks credToks
  rw [← bigSep_fin15, ← bigSep_fin15, ← bigSep_fin15, ← bigSep_fin15, ← bigSep_fin15]
  rfl

/-- What the launch element deals device `c`. -/
def G (c : Dev nD) : sProp 𝕄 :=
  iprop((bigSep Finset.univ fun k : Fin 6 => roundState ER (ringRd m) (kcell (c, k)) 0)
    ∗ (bigSep Finset.univ fun k : Fin 6 => iprop(atPos ER (kcell (c, k)) 0 ∅ 0 ∗ reached ER (kcell (c, k)) 0)) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 6 => Φ (kcell (c, k)) := by
    unfold ringCells; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq (ringToks_eq (F := F))) $$ Htok
  unfold G; simp only [bigSep_sep']
  isplitl [Hst']; · iexact Hst'
  isplitl [Hat' Hr']
  · isplitl [Hat'] <;> iassumption
  iexact Htok'

/-! ## The invariants allocated -/

/-- The kernel's own semaphores: the send cells, the receive cells, the credit. -/
abbrev osem : Fin 5 → SemLoc sig := fun | 0 => .dma (sendS 0) | 1 => .dma (sendS 1) | 2 => .dma (recvS 0) | 3 => .dma (recvS 1) | 4 => .reg credS

theorem ownSems0_eq (c : Dev nD) : (Pipeline.ownSems0 (Ix := ℕ) (Name := ℕ) (U := UU) (Lvl := ℕ) (Val := Elt F) (τ := τ) osem c : sProp 𝕄)
    = iprop(semVal (sendCell c 0) 0 ∗ semVal (sendCell c 1) 0 ∗ semVal (recvCell c 0) 0 ∗ semVal (recvCell c 1) 0 ∗ semVal (credCell c) 0) := by
  rw [Pipeline.ownSems0_eq_of_list c osem [0, 1, 2, 3, 4] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, bigSep_fin6]
  iintro ⟨H, HB⟩
  isplitl [HB] <;> iassumption

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => hasInv (F := F) m (kcell (c, k)))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 6 => semVal (kcell (c, k)) 0) ∗ bigSep Finset.univ fun k : Fin 6 => roundState ER (ringRd m) (kcell (c, k)) 0)
      ⊢ (|={Set.univ}=> bigSep Finset.univ fun k => hasInv (F := F) m (kcell (c, k)) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring -/

/-- The tokens device `c` pays with: its neighbours' barrier duties, its transfers', its credits to the left. -/
def payToks (c : Dev nD) : sProp 𝕄 :=
  iprop((dutyTok ER (barCell (prv c)) 0 true ∗ dutyTok ER (barCell (nxt c)) 0 false)
    ∗ bigSep (Finset.Ico 0 15) (hopTok (F := F) c) ∗ bigSep (Finset.Ico 0 14) (giveTok (F := F) c))

theorem toks_around : (bigSep Finset.univ fun c : Dev nD => toks (F := F) c) ⊢ bigSep Finset.univ fun c : Dev nD => payToks (F := F) c := by
  unfold toks
  rw [bigSep_sep', bigSep_sep', bigSep_sep', bigSep_sep',
    bigSep_univ_equiv ring (fun c : Dev nD => barToks (F := F) false c), bigSep_univ_equiv ring.symm (fun c : Dev nD => barToks (F := F) true c),
    bigSep_univ_equiv ring (fun c : Dev nD => recvToks (F := F) c), bigSep_univ_equiv ring.symm (fun c : Dev nD => credToks (F := F) c),
    ← bigSep_sep', ← bigSep_sep', ← bigSep_sep', ← bigSep_sep']
  refine bigSep_mono fun c _ => ?_
  show iprop(barToks (F := F) false (nxt c) ∗ barToks (F := F) true (prv c) ∗ sendToks (F := F) c ∗ recvToks (F := F) (nxt c) ∗ credToks (F := F) (prv c)) ⊢ _
  unfold payToks
  have hB (b : Bool) (d : Dev nD) : barToks (F := F) b d ⊢ (dutyTok ER (barCell d) 0 b : sProp 𝕄) :=
    bigSep_elim (Finset.mem_range.mpr (by decide))
  have hC : credToks (F := F) (prv c) ⊢ bigSep (Finset.Ico 0 14) (giveTok (F := F) c) :=
    bigSep_subset fun s hs => Finset.mem_range.mpr (by have := (Finset.mem_Ico.mp hs).2; omega)
  have hH : iprop(sendToks (F := F) c ∗ recvToks (F := F) (nxt c)) ⊢ bigSep (Finset.Ico 0 15) (hopTok (F := F) c) := by
    unfold sendToks recvToks
    rw [← bigSep_sep', Finset.range_eq_Ico]
    exact bigSep_mono fun s _ => by unfold hopTok; exact BI.Entails.refl _
  iintro ⟨H1, H2, H3, H4, H5⟩
  isplitl [H1 H2]
  · isplitl [H2]
    · iapply (hB true (prv c)); iexact H2
    · iapply (hB false (nxt c)); iexact H1
  isplitl [H3 H4]
  · iapply hH
    isplitl [H3] <;> iassumption
  iapply hC; iexact H5

/-! ## What each device starts with -/

/-- Every cell is at round 0. -/
def reachedAll : sProp 𝕄 := bigSep Finset.univ fun ck : Dev nD × Fin 6 => reached ER (kcell ck) 0
instance reachedAll_persistent : BI.Persistent (reachedAll (F := F)) := by unfold reachedAll; infer_instance
theorem reached_at (ck : Dev nD × Fin 6) : reachedAll (F := F) ⊢ reached ER (kcell ck) 0 := by
  unfold reachedAll; exact bigSep_elim (Finset.mem_univ ck)

/-- Device `c`'s own positions, and the tokens it pays with. -/
def own₀ (c : Dev nD) : sProp 𝕄 := iprop((bigSep Finset.univ fun k : Fin 6 => atPos ER (kcell (c, k)) 0 ∅ 0) ∗ payToks (F := F) c)

/-- What the global step makes of it: all the ghost state but the levels and the credits. -/
def G' (c : Dev nD) : sProp 𝕄 := iprop((records (F := F) m ∗ reachedAll (F := F)) ∗ own₀ (F := F) c)

theorem regroup :
    (bigSep Finset.univ fun c : Dev nD => iprop((bigSep Finset.univ fun k => hasInv (F := F) m (kcell (c, k)))
          ∗ (bigSep Finset.univ fun k => iprop(atPos ER (kcell (c, k)) 0 ∅ 0 ∗ reached ER (kcell (c, k)) 0)) ∗ toks (F := F) c) : sProp 𝕄)
      ⊢ bigSep Finset.univ (G' (F := F) m) := by
  rw [bigSep_sep', bigSep_sep', ← bigSep_univ_prod (fun ck : Dev nD × Fin 6 => hasInv (F := F) m (kcell ck)),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  iintro ⟨#HI, ⟨Hat, #HR⟩, Htok⟩
  ihave Htk := (toks_around (F := F)) $$ Htok
  iapply (bigSep_with_persistent (R := iprop(records (F := F) m ∗ reachedAll (F := F))) (Φ := own₀ (F := F)) (Ψ := G' (F := F) m)
    fun c _ => by unfold G'; exact BI.Entails.refl _)
  isplitr
  · unfold records reachedAll; isplitr; · iexact HI
    iexact HR
  · unfold own₀; rw [bigSep_sep']
    isplitl [Hat]; · iexact Hat
    iexact Htk

/-- Own and unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## The credits -/

/-- The credits the launch deals device `c`: its barrier's two units, and one per transfer and per credit to come. -/
theorem creds (c : Dev nD) :
    (Pipeline.launchCred owed₀ c : sProp 𝕄) ⊢ iprop(cred (tallyAt (barCell c) 0 2)
      ∗ bigSep (Finset.Ico 0 15) (hopCred (F := F) c) ∗ bigSep (Finset.Ico 0 14) (giveCred (F := F) c)) := by
  show (Pipeline.launchCred (fun d : Dev nD => ((∑ s ∈ Finset.Ico 0 15, tallyAt (recvCell (nxt d) (rcv s)) s N)
      + ∑ r ∈ Finset.Ico 0 14, tallyAt (credCell (prv d)) r 1) + tallyAt (barCell (nxt d)) 0 1 + tallyAt (barCell (prv d)) 0 1) c : sProp 𝕄) ⊢ _
  rw [Pipeline.launchCred_add, Pipeline.launchCred_add, Pipeline.launchCred_add, Pipeline.launchCred_sum, Pipeline.launchCred_sum]
  have hH : (bigSep (Finset.Ico 0 15) fun s => Pipeline.launchCred (fun d : Dev nD => tallyAt (recvCell (nxt d) (rcv s)) s N) c : sProp 𝕄)
      ⊢ bigSep (Finset.Ico 0 15) (hopCred (F := F) c) :=
    bigSep_mono fun s _ => Pipeline.launchCred_tallyAt (.dma (recvS (rcv s))) nxt prv nxt_prv prv_nxt s N c
  have hG : (bigSep (Finset.Ico 0 14) fun r => Pipeline.launchCred (fun d : Dev nD => tallyAt (credCell (prv d)) r 1) c : sProp 𝕄)
      ⊢ bigSep (Finset.Ico 0 14) (giveCred (F := F) c) :=
    bigSep_mono fun s _ => Pipeline.launchCred_tallyAt (.reg credS) prv nxt prv_nxt nxt_prv s 1 c
  iintro ⟨⟨⟨H1, H2⟩, H3⟩, H4⟩
  isplitl [H3 H4]
  · rw [show (tallyAt (barCell c) 0 2 : CellTallies nD τ sig ℕ) = tallyAt (barCell c) 0 1 + tallyAt (barCell c) 0 1 from
      (tallyAt_add (barCell c) 0 1 1).symm]
    iapply (cred_add _ _).2
    isplitl [H3]
    · iapply (Pipeline.launchCred_tallyAt (.reg barS) nxt prv nxt_prv prv_nxt 0 1 c); iexact H3
    · iapply (Pipeline.launchCred_tallyAt (.reg barS) prv nxt prv_nxt nxt_prv 0 1 c); iexact H4
  isplitl [H1]
  · iapply hH; iexact H1
  · iapply hG; iexact H2

/-- The ghost state a device's body starts from. -/
theorem ghost_intro (c : Dev nD) :
    iprop(levAts lvSet lv ∗ Pipeline.launchCred owed₀ c ∗ G' (F := F) m c) ⊢ ghost m c := by
  unfold G' own₀ payToks
  rw [bigSep_fin6]
  iintro ⟨#Hlev, Hcr, ⟨#HI, #HR⟩, ⟨HaB, HaS, HaS', HaV, HaV', HaC⟩, ⟨HtP, HtN⟩, HtH, HtG⟩
  ihave Hc := (creds (F := F) c) $$ Hcr
  icases Hc with ⟨HcB, HcH, HcG⟩
  unfold ghost ringPos marks left
  isplitr; · iexact HI
  isplitr; · iexact Hlev
  isplitl [HaB]; · iexact HaB
  isplitl [HaS HaS' HaV HaV' HaC]
  · isplitl [HaS]; · iexact HaS
    isplitl [HaS']; · iexact HaS'
    isplitl [HaV']; · iexact HaV'
    isplitl [HaV]; · iexact HaV
    iexact HaC
  isplitr
  · isplitr
    · isplitr; · iapply (reached_at (F := F) (c, 1)); iexact HR
      isplitr; · iapply (reached_at (F := F) (c, 2)); iexact HR
      isplitr; · iapply (reached_at (F := F) (c, 3)); iexact HR
      iapply (reached_at (F := F) (c, 5)); iexact HR
    isplitr; · iapply (reached_at (F := F) (c, 4)); iexact HR
    isplitr; · iapply (reached_at (F := F) (prv c, 0)); iexact HR
    iapply (reached_at (F := F) (nxt c, 0)); iexact HR
  isplitl [HtP HtN HcB]
  · isplitl [HtP]; · iexact HtP
    isplitl [HtN]; · iexact HtN
    iexact HcB
  isplitl [HtH]; · iexact HtH
  isplitl [HtG]; · iexact HtG
  isplitl [HcH]; · iexact HcH
  iexact HcG

end Cert.RingProof

end
-- ==== Proof.Launch.lean ====
/- The launch of 01_k: the two slots cut from the landing buffer and joined again, the pipeline's proof data, the body
   obligation, and the run of @main over any float values — every result array at the computed contents, the arguments
   unchanged, every semaphore at zero. -/
module

public import proofs.«01_k».proof.Proof.Deal
public import Idealize.ShloMosaic.Lib.Pipeline.CollectiveSegs
public import Idealize.ShloMosaic.Lib.Quiescent

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig ℕ (Elt F) ℕ UU ℕ

variable (m : (ℓ : Loc nD τ sig) → Buf (Elt F) ℓ) (ρ : Dev nD → PrngReg)

/-! ## The landing buffer and its two slots -/

/-- Propositions that entail each other are equal. -/
theorem same {P Q : sProp 𝕄} (h : P ⊢ Q) (h' : Q ⊢ P) : P = Q := BI.Entails.antisymm h h'

theorem slot_set (p : Fin 2) : (slotM p).view.set = (slotR p).set := by
  rw [Memref.set_view_squeeze]; exact View.set_slice_whole cc0_scratch0 (slotR p)

theorem slots_disjoint (p q : Fin 2) (h : p ≠ q) : Disjoint (slotR p).set (slotR q).set := by
  refine Rect.disjoint_of_separated _ _ (0 : Fin 3) ?_
  revert p q; decide

theorem slots_cover : (Finset.univ : Finset (Fin 2)).biUnion (fun p => (slotR p).set) = Finset.univ := by
  refine Finset.eq_univ_iff_forall.mpr fun i => Finset.mem_biUnion.mpr ⟨i (0 : Fin 3), Finset.mem_univ _, ?_⟩
  refine Rect.mem_set_unit.mpr fun a => ?_
  fin_cases a
  · exact ⟨Nat.le_refl _, Nat.lt_succ_self _⟩
  · exact ⟨Nat.zero_le _, by have := (i (1 : Fin 3)).isLt; exact (Nat.zero_add _).symm ▸ this⟩
  · exact ⟨Nat.zero_le _, by have := (i (2 : Fin 3)).isLt; exact (Nat.zero_add _).symm ▸ this⟩

theorem slot_some (c : Dev nD) (p : Fin 2) :
    iprop(∃ v, slotAt (F := F) c p v) = iprop(∃ f : Buf (Elt F) ((c : Thread nD τ).loc cc0_scratch0), ((c : Thread nD τ).loc cc0_scratch0) ↦[(slotR p).set]{fullShare} f) := by
  rw [← slot_set]
  unfold slotAt
  refine same ?_ ?_
  · iintro ⟨%v, %f, -, H⟩; iexists f; iexact H
  · iintro ⟨%f, H⟩; iexists _; iexists f; isplitr; · (ipureintro; rfl)
    iexact H

theorem slots_split (c : Dev nD) (f : Buf (Elt F) ((c : Thread nD τ).loc cc0_scratch0)) :
    (((c : Thread nD τ).loc cc0_scratch0) ↦{fullShare} f : sProp 𝕄) ⊢ slots (F := F) c := by
  rw [Ring.pointsTo_blocks (fun p : Fin 2 => (slotR p).set) slots_disjoint slots_cover f,
    bigSep_univ_eq_bigSepL [(0 : Fin 2), 1] (by decide) (by decide)]
  unfold slots; rw [slot_some, slot_some]
  show iprop((((c : Thread nD τ).loc cc0_scratch0) ↦[(slotR 0).set]{fullShare} f) ∗ (((c : Thread nD τ).loc cc0_scratch0) ↦[(slotR 1).set]{fullShare} f)) ⊢ _
  iintro ⟨H0, H1⟩
  isplitl [H0]
  · iexists f; iexact H0
  · iexists f; iexact H1

theorem slots_join (c : Dev nD) :
    slots (F := F) c ⊢ (iprop(∃ f : Buf (Elt F) ((c : Thread nD τ).loc cc0_scratch0), ((c : Thread nD τ).loc cc0_scratch0) ↦{fullShare} f) : sProp 𝕄) := by
  refine BIBase.Entails.trans ?_ (Ring.pointsTo_blocks_join_exists (fun p : Fin 2 => (slotR p).set) slots_disjoint slots_cover
    (fun _ => Classical.choice inferInstance))
  rw [bigSep_univ_eq_bigSepL [(0 : Fin 2), 1] (by decide) (by decide)]
  unfold slots; rw [slot_some, slot_some]
  exact BI.Entails.refl _

/-! ## The pipeline's proof data -/

/-- What the body starts from besides the windows: the ghost state and the two scratch buffers. -/
def Φ₀ (c : Dev nD) : sProp 𝕄 := iprop(ghost m c ∗ slots (F := F) c ∗ ∃ f, pPts c f)
/-- What it leaves: every cell closed at zero, the scratch buffers back. -/
def Φ₁ (c : Dev nD) : sProp 𝕄 := iprop(zeros (F := F) c ∗ slots (F := F) c ∗ ∃ f, pPts c f)

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => outAt m c
  Φ t := match t with
    | ⟨0, _⟩ => Φ₀ m c
    | ⟨_ + 1, _⟩ => Φ₁ (F := F) c
  q _ := fullShare
  owed t := match t with
    | ⟨0, _⟩ => owed₀ c
    | ⟨_ + 1, _⟩ => 0

theorem owns_stage (c : Dev nD) (b : Ref sig .tc) (X : b.ty.Contents (Elt F)) :
    (owns (Ix := ℕ) (Name := ℕ) (U := UU) (Lvl := ℕ) (c : Thread nD τ) (Memref.whole b) fullShare X : sProp 𝕄)
      = (((c : Thread nD τ).loc b) ↦{fullShare} X) := by
  unfold owns; simp only [Memref.view_whole, View.read_whole, View.set_whole]
  refine same ?_ ?_
  · iintro ⟨%f, %hf, H⟩; subst hf; iexact H
  · iintro H; iexists X; isplitr; · (ipureintro; rfl)
    iexact H

/-! ## The body obligation -/

abbrev stg (c : Dev nD) (b : Ref sig .tc) (X : b.ty.Contents (Elt F)) : sProp 𝕄 := ((c : Thread nD τ).loc b) ↦{fullShare} X

set_option maxRecDepth 4000 in
def bodyPre (c : Dev nD) : sProp 𝕄 :=
  iprop(Φ₀ m c ∗ (dats m 0 c).owesAt 0 t0_0.castSucc
    ∗ (∃ d, stg c cc0_stg0_0 ((dats m 0 c).before (0 : Fin 5) t0_0 d)) ∗ (∃ d, stg c cc0_stg1_0 ((dats m 0 c).before (1 : Fin 5) t0_0 d))
    ∗ (∃ d, stg c cc0_stg2_0 ((dats m 0 c).before (2 : Fin 5) t0_0 d)) ∗ (∃ d, stg c cc0_stg3_0 ((dats m 0 c).before (3 : Fin 5) t0_0 d))
    ∗ (∃ d, stg c cc0_stg4_0 ((dats m 0 c).before (4 : Fin 5) t0_0 d)))
def bodyPost (c : Dev nD) : sProp 𝕄 :=
  iprop(Φ₁ (F := F) c ∗ (dats m 0 c).owesAt 0 t0_0.succ ∗ xPts m c ∗ wPts m c ∗ sxPts m c ∗ swPts m c ∗ oPts c (outAt m c))

theorem before_x (c : Dev nD) (d : (cc0_stg0_0 : Ref sig .tc).ty.Contents (Elt F)) : (dats m 0 c).before (0 : Fin 5) t0_0 d = xstg m c := by
  unfold Dat.before; rw [if_pos (fetch0_0 t0_0)]; rfl
theorem before_w (c : Dev nD) (d : (cc0_stg1_0 : Ref sig .tc).ty.Contents (Elt F)) : (dats m 0 c).before (1 : Fin 5) t0_0 d = wstg m c := by
  unfold Dat.before; rw [if_pos (fetch0_1 t0_0)]; rfl
theorem before_sx (c : Dev nD) (d : (cc0_stg2_0 : Ref sig .tc).ty.Contents (Elt F)) : (dats m 0 c).before (2 : Fin 5) t0_0 d = sxstg m c := by
  unfold Dat.before; rw [if_pos (fetch0_2 t0_0)]; rfl
theorem before_sw (c : Dev nD) (d : (cc0_stg3_0 : Ref sig .tc).ty.Contents (Elt F)) : (dats m 0 c).before (3 : Fin 5) t0_0 d = swstg m c := by
  unfold Dat.before; rw [if_pos (fetch0_3 t0_0)]; rfl

theorem sound_body (c : Dev nD) : bodyPre m c ⊢ WP c (bodyAt0 (F := F) t0_0) fun _ => bodyPost m c := by
  rw [body_eq]
  unfold WP
  simp only [Prog.lift, Prog.bind_op, Prog.bind_ret, wp_deviceId]
  unfold bodyPre
  iintro ⟨HΦ, Ho, ⟨%d0, Hx⟩, ⟨%d1, Hw⟩, ⟨%d2, Hsx⟩, ⟨%d3, Hsw⟩, ⟨%d4, Hout⟩⟩
  rw [before_x, before_w, before_sx, before_sw]
  unfold Φ₀ Dat.owesAt Pipeline.owesWithin
  icases HΦ with ⟨Hg, Hs, Hp⟩
  icases Ho with ⟨%W, %hW, HO⟩
  rw [show (dats m 0 c).owed t0_0.castSucc = owed₀ c from rfl]
  iapply (wp_ring m c fun _ => bodyPost m c)
  isplitr []
  · isplitl [Hg]; · iexact Hg
    isplitl [Hs]; · iexact Hs
    isplitl [HO]; · unfold owing; iexists W; iexact HO
    isplitl [Hx]; · iexact Hx
    isplitl [Hw]; · iexact Hw
    isplitl [Hp]; · iexact Hp
    isplitl [Hsx]; · iexact Hsx
    isplitl [Hsw]; · iexact Hsw
    iexists _; iexact Hout
  · unfold owing
    iintro ⟨⟨%W', HO⟩, Hz, Hs, Hx, Hw, Hp, Hsx, Hsw, Hout⟩
    unfold bodyPost Φ₁ Dat.owesAt Pipeline.owesWithin
    rw [show (dats m 0 c).owed t0_0.succ = 0 from rfl]
    isplitl [Hz Hs Hp]
    · isplitl [Hz]; · iexact Hz
      isplitl [Hs]; · iexact Hs
      iexact Hp
    isplitl [HO]
    · iexists W'; isplitr; · ipureintro; exact fun _ _ => Or.inl trivial
      iexact HO
    isplitl [Hx]; · iexact Hx
    isplitl [Hw]; · iexact Hw
    isplitl [Hsx]; · iexact Hsx
    isplitl [Hsw]; · iexact Hsw
    iexact Hout

set_option maxRecDepth 65536 in
/-- The library's body obligation on device `c`. -/
theorem body_obligation (c : Dev nD) : BodyObligation (dats (F := F) m 0 c) (defs₀ (F := F)) 𝒱₀ 0 Set.univ := fun t => by
  rw [fin_N0 t, bigSep_W0, bigSep_W0]
  simp only [owns_stage]
  exact sound_body m c

/-! ## The launch -/

theorem ownSemFacts : Pipeline.OwnSemFacts cfg0.spec osem := by decide

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts lvSet lv
        ∗ Pipeline.launchCred owed₀ c ∗ prngReg c (ρ c) ∗ G' m c)
      ⊢ |={Set.univ}=> iprop(ghost m c ∗ emp) := by
  iintro ⟨-, Hlev, Hcr, -, HG⟩
  ihave Hg := (ghost_intro m c) $$ [Hlev Hcr HG]
  · isplitl [Hlev]; · iexact Hlev
    isplitl [Hcr] <;> iassumption
  imodintro
  isplitl; · iexact Hg
  iempintro

theorem phi0_intro (c : Dev nD) :
    iprop(ghost m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩, Hp⟩
  isplitl [Hs]; · iexact Hs
  isplitl [Hr]; · iapply (slots_split c f); iexact Hr
  iexact Hp

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq, ownSems0_eq, unscopedSems0_eq]
  unfold Φ₁ zeros
  iintro ⟨⟨HB, HZ⟩, Hs, Hp⟩
  isplitl [HB]; · iexact HB
  isplitl [HZ]; · iexact HZ
  isplitl [Hs]; · iapply (slots_join (F := F) c); iexact Hs
  iexact Hp

theorem waits (c : Dev nD) : (levAts lvSet lv : sProp 𝕄) ⊢ Pipeline.cellsWaits cfgs (dats m) 0 0 c :=
  Pipeline.cellsWaits_intro cfgs (dats m) 0 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every execution of @main ends, every window's array as computed and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owed₀) (howed₀ := fun _ => rfl) (howedN := fun _ => rfl)
    (L := lvSet) (lv := lv) (hL := lvSet_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := ghost m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold after the run -/

/-- An argument's array holds what it held, -/
theorem finalA_in (c : Dev nD) (w : Fin 5) (h : (cfg0.win w).isOut = false) :
    finalA m c w = m ((cfg0.win w).arr.view.loc (c : Thread nD τ)) :=
  (dats (F := F) m 0 c).arrAt_in w h _

/-- and the result's array the result computed. -/
theorem finalA_out (c : Dev nD) : finalA m c (4 : Fin 5) = outAt m c := by
  have h : (win0_4.blk t0_0).view.read (Elt F) (finalA m c (4 : Fin 5)) = outAt m c := by
    unfold finalA
    rw [show cfg0.N = (t0_0 : Fin cfg0.N).val + 1 from N_0, (dats m 0 c).arrAt_succ (4 : Fin 5) t0_0, flush0_4 t0_0, if_pos rfl]
    exact View.read_write_univ _ _
  have hz : (fun a => (win0_4.index t0_0) a * main_v1.ty.shape.size a) = fun _ => 0 := funext fun a => by fin_cases a <;> decide
  rw [← h]
  exact (Memref.read_access_unit_zero (Elt F) main_v1 hz (fun a => by fin_cases a <;> decide) _).symm

end Cert.RingProof

end
-- ==== Proof.Sums.lean ====
/- Sums of the ring of 01_k over the extended reals: what a device's result is before scaling, as a sum over the devices of
   the ring, and a sum over 4096 places split in 16 stretches of 256. -/
module

public import proofs.«01_k».proof.Proof.Contents
public import Idealize.ShloMosaic.Lib.MatmulPlain
public import Idealize.ShloMosaic.Lib.ValueIdx
public import Mathlib.Algebra.BigOperators.Fin

@[expose] public section

noncomputable section

namespace Cert.RingProof

open Cert.KernelIdeal Cert.KernelIdeal.Gen
open Idealize.ShloMosaic Idealize.ShloMosaic.TcCoe Idealize.ShloMosaic.ValueIdx
open scoped BigOperators

/-! ## Reordering -/

/-- Place `k` of stretch `d`. -/
def at16 (d : Fin 16) (k : Fin 256) : Fin 4096 := ⟨256 * d.val + k.val, by have := d.isLt; have := k.isLt; omega⟩

/-- A sum over 4096 places, stretch by stretch. -/
theorem sum_stretches {M : Type} [AddCommMonoid M] (f : Fin 4096 → M) : ∑ k, f k = ∑ d : Fin 16, ∑ k : Fin 256, f (at16 d k) := by
  rw [← Fintype.sum_prod_type']
  refine (Fintype.sum_equiv (finProdFinEquiv (m := 16) (n := 256)) (fun p => f (at16 p.1 p.2)) f fun p => ?_).symm
  exact congrArg f (Fin.ext (Nat.add_comm _ _))

/-- Going left `s` steps, for `s` below 16, meets every device once. -/
theorem back_injective : ∀ (c : Dev nD) (s t : Fin 16), prv^[s.val] c = prv^[t.val] c → s = t := by decide +kernel
theorem back_bijective (c : Dev nD) : Function.Bijective (fun s : Fin 16 => (prv^[s.val] c : Fin 16)) :=
  Finite.injective_iff_bijective.mp fun s t h => back_injective c s t h

/-- So a sum over the sixteen steps to the left is a sum over the devices. -/
theorem sum_back {M : Type} [AddCommMonoid M] (c : Dev nD) (f : Dev nD → M) :
    ∑ s ∈ Finset.range 16, f (prv^[s] c) = ∑ d : Fin 16, f d := by
  rw [Finset.sum_range]
  exact (back_bijective c).sum_comp (fun d : Fin 16 => f d)

/-! ## The travelling sum -/

variable (m : (ℓ : Loc nD τ sig) → Buf (Elt Ideal) ℓ)

/-- What device `c` sends at step `t`: the partial products, of the row block it adds at `t`, of itself and of the `t` devices
    to its left. -/
theorem acc_apply : ∀ (t : ℕ), t < 16 → ∀ (c : Dev nD) (i : S256x8192.Idx),
    acc m t c i = ∑ s ∈ Finset.range (t + 1), part m (prv^[s] c) (chunk c t) i
  | 0, _, c, i => by
    rw [Finset.sum_range_one]
    rfl
  | t + 1, h, c, i => by
    rw [Finset.sum_range_succ', chunk_succ c ⟨t, by omega⟩]
    show acc m t (prv c) i + part m c (chunk c (t + 1)) i = _
    rw [acc_apply t (by omega) (prv c) i, chunk_succ c ⟨t, by omega⟩]
    rfl

/-- What the last device adds to the sum that reached it: the partial products, of its own row block, of all devices. -/
theorem total_apply (c : Dev nD) (i : S256x8192.Idx) :
    acc m 14 (prv c) i + part m c (chunk c 15) i = ∑ d : Fin 16, part m d (chunk c 15) i :=
  (acc_apply m 15 (by decide) c i).trans (sum_back c fun d => part m d (chunk c 15) i)

/-! ## A partial product -/

/-- A product of blocks at a row and a column: the sum over the 256 places between. -/
theorem prod_apply (x : Vec Ideal S256x256 .fp8e4m3) (w : Vec Ideal S256x8192 .fp8e5m2) (r : Fin 256) (n : Fin 8192) :
    prod x w (ix2 r n) = ∑ k : Fin 256, (x (ix2 r k) * w (ix2 k n) : EReal) := by
  refine (Ideal.matmul_plain_apply (M := 256) (K := 256) (N := 8192) none (extf .bf16 x bitsLt_fp8e4m3_bf16)
    (extf .bf16 w bitsLt_fp8e5m2_bf16) (constant S256x8192 .f32 0x00000000#32) r n).trans ?_
  rw [constant_apply, Ideal.ofBits_zero_f32, zero_add]
  rfl

theorem start0 : (fun a => (win0_0.index t0_0) a * main_arg0.ty.shape.size a) = fun _ => 0 := funext fun a => by fin_cases a <;> decide
theorem start1 : (fun a => (win0_1.index t0_0) a * main_arg1.ty.shape.size a) = fun _ => 0 := funext fun a => by fin_cases a <;> decide
theorem start2 : (fun a => (win0_2.index t0_0) a * main_arg2.ty.shape.size a) = fun _ => 0 := funext fun a => by fin_cases a <;> decide
theorem start3 : (fun a => (win0_3.index t0_0) a * main_arg3.ty.shape.size a) = fun _ => 0 := funext fun a => by fin_cases a <;> decide

/-- Device `c`'s two matrices. -/
def xArg (c : Dev nD) : Vec Ideal S4096x256 .fp8e4m3 := m ((c : Thread nD τ).loc main_arg0)
def wArg (c : Dev nD) : Vec Ideal S256x8192 .fp8e5m2 := m ((c : Thread nD τ).loc main_arg1)

/-- The windows hold the arguments, whole. -/
theorem xstg_eq (c : Dev nD) : xstg m c = xArg m c := by
  unfold xstg wblk
  exact Memref.read_access_unit_zero (Elt Ideal) main_arg0 start0 (fun a => by fin_cases a <;> decide) (m ((c : Thread nD τ).loc main_arg0))
theorem wstg_eq (c : Dev nD) : wstg m c = wArg m c := by
  unfold wstg wblk
  exact Memref.read_access_unit_zero (Elt Ideal) main_arg1 start1 (fun a => by fin_cases a <;> decide) (m ((c : Thread nD τ).loc main_arg1))
theorem sxstg_eq (c : Dev nD) : sxstg m c = m ((c : Thread nD τ).loc main_arg2) := by
  unfold sxstg wblk
  exact Memref.read_access_unit_zero (Elt Ideal) main_arg2 start2 (fun a => by fin_cases a <;> decide) (m ((c : Thread nD τ).loc main_arg2))
theorem swstg_eq (c : Dev nD) : swstg m c = m ((c : Thread nD τ).loc main_arg3) := by
  unfold swstg wblk
  exact Memref.read_access_unit_zero (Elt Ideal) main_arg3 start3 (fun a => by fin_cases a <;> decide) (m ((c : Thread nD τ).loc main_arg3))

/-- Row `r` of row block `j` is row `256 * j + r`. -/
theorem xrow_apply (c : Dev nD) (j : Fin 16) (r k : Fin 256) : xrow m c j (ix2 r k) = xArg m c (ix2 (at16 j r) k) := by
  unfold xrow
  rw [xstg_eq]
  show xArg m c _ = _
  refine congrArg _ (funext fun a => Fin.ext ?_)
  match a with
  | ⟨0, _⟩ => show 256 * j.val + 1 * r.val = 256 * j.val + r.val; omega
  | ⟨1, _⟩ => show 0 + 1 * k.val = k.val; omega

/-- A partial product as a sum over the device's 256 columns of `x`. -/
theorem part_apply (c : Dev nD) (j : Fin 16) (r : Fin 256) (n : Fin 8192) :
    part m c j (ix2 r n) = ∑ k : Fin 256, (xArg m c (ix2 (at16 j r) k) * wArg m c (ix2 k n) : EReal) := by
  unfold part
  rw [prod_apply, wstg_eq]
  exact Finset.sum_congr rfl fun k _ => by rw [xrow_apply]

end Cert.RingProof

end
-- ==== Proof.ReferenceValue.lean ====
/- What the reference of 01_k computes: its one result array as one function of its four argument arrays, over any float
   values. -/
module

public import proofs.«01_k».proof.Proof.Gen.ReferenceIdeal.Value

@[expose] public section

noncomputable section

namespace Cert.RingProof.Whole

open Cert.ReferenceIdeal Cert.ReferenceIdeal.Gen Cert.ReferenceIdeal.Value
open Idealize.ShloMosaic Idealize.ShloMosaic.TcCoe Idealize.SL.Sem

variable {F : FTy → Type} [FloatOps F]

/-- The one entry of a one-entry vector. -/
def one : S1.Idx := Shape.Idx.first (s := S1) (numel1_S1.symm ▸ Nat.one_pos)

/-- Every index of a one-entry vector is that one. -/
theorem eq_one (i : S1.Idx) : i = one := by
  funext a
  match a with
  | ⟨0, _⟩ =>
    apply Fin.ext
    have h1 : (i 0).val < 1 := (i 0).isLt
    have h2 : (one 0).val < 1 := (one 0).isLt
    show (i 0).val = (one 0).val
    omega

/-- The reference: the product of the two matrices, times the product of the two scales. -/
def whole (x : Vec F S4096x4096 .fp8e4m3) (w : Vec F S4096x8192 .fp8e5m2) (sx sw : Vec F S1 .f32) : Vec F S4096x8192 .f32 :=
  k0_pay1 x w (sx one) (sw one)

theorem zero2 : (![0, 0] : Fin 2 → Nat) = fun _ => 0 := funext fun a => by fin_cases a <;> rfl

/-- What the body leaves in the output's buffer is that function of what the input buffers hold: one store of the whole
    buffer, of whole loads and two scalar loads. -/
theorem out_eq (c : Dev nD) (arg0 : Memref sig .tc .vmem S4096x4096 .fp8e4m3) (h0 : arg0.IsWhole)
    (arg1 : Memref sig .tc .vmem S4096x8192 .fp8e5m2) (h1 : arg1.IsWhole) (arg2 : Memref sig .tc .smem S1 .f32) (h2 : arg2.IsWhole)
    (arg3 : Memref sig .tc .smem S1 .f32) (h3 : arg3.IsWhole) (arg4 : Memref sig .tc .vmem S4096x8192 .f32) (h4 : arg4.IsWhole)
    (x0 : Vec F S4096x4096 .fp8e4m3) (x1 : Vec F S4096x8192 .fp8e5m2) (x2 x3 : Vec F S1 .f32) :
    out0_A_4 c arg0 h0 arg1 h1 arg2 h2 arg3 h3 arg4 h4 x0 x1 x2 x3 = whole x0 x1 x2 x3 := by
  unfold out0_A_4
  rw [View.read_writes_eq_canon _ _ _ (cover0_A_4 c arg0 h0 arg1 h1 arg2 h2 arg3 h3 arg4 h4 x0 x1 x2 x3)]
  unfold kernelRun0_A
  dsimp only
  sl_unfold_words
  rw [View.canon_unit_zero zero2]
  simp only [View.readAt_eq_ld, h0.read_unread, h1.read_unread, h2.read_unread, h3.read_unread,
    View.ld_unit_zero (S := S4096x4096) zero2, View.ld_unit_zero (S := S4096x8192) zero2]
  exact congrArg₂ (k0_pay1 x0 x1) (congrArg x2 (eq_one _)) (congrArg x3 (eq_one _))

variable (m : (ℓ : Loc nD τ sig) → Buf (Elt F) ℓ) (ρ : Dev nD → PrngReg)

/-- Each window is its whole array: its block starts at the origin, -/
theorem start0 (t : Fin cfg0.N) : (fun a => win0_0.index t a * main_arg0.ty.shape.size a) = fun _ => 0 := by
  obtain rfl : t = ⟨0, by decide⟩ := Fin.ext (by have := t.isLt; have h : cfg0.N = 1 := rfl; omega)
  exact funext fun a => by fin_cases a <;> decide
theorem start1 (t : Fin cfg0.N) : (fun a => win0_1.index t a * main_arg1.ty.shape.size a) = fun _ => 0 := by
  obtain rfl : t = ⟨0, by decide⟩ := Fin.ext (by have := t.isLt; have h : cfg0.N = 1 := rfl; omega)
  exact funext fun a => by fin_cases a <;> decide
theorem start2 (t : Fin cfg0.N) : (fun a => win0_2.index t a * main_arg2.ty.shape.size a) = fun _ => 0 := by
  obtain rfl : t = ⟨0, by decide⟩ := Fin.ext (by have := t.isLt; have h : cfg0.N = 1 := rfl; omega)
  exact funext fun a => by fin_cases a <;> decide
theorem start3 (t : Fin cfg0.N) : (fun a => win0_3.index t a * main_arg3.ty.shape.size a) = fun _ => 0 := by
  obtain rfl : t = ⟨0, by decide⟩ := Fin.ext (by have := t.isLt; have h : cfg0.N = 1 := rfl; omega)
  exact funext fun a => by fin_cases a <;> decide
theorem start4 (t : Fin cfg0.N) : (fun a => win0_4.index t a * main_v0.ty.shape.size a) = fun _ => 0 := by
  obtain rfl : t = ⟨0, by decide⟩ := Fin.ext (by have := t.isLt; have h : cfg0.N = 1 := rfl; omega)
  exact funext fun a => by fin_cases a <;> decide

/-- and reading it reads the array. -/
theorem blk0 (c : Dev nD) (t : Fin cfg0.N) : iblk m c 0 t = m ((c : Thread nD τ).loc main_arg0) :=
  Memref.read_access_unit_zero (Elt F) main_arg0 (start0 t) _ _
theorem blk1 (c : Dev nD) (t : Fin cfg0.N) : iblk m c 1 t = m ((c : Thread nD τ).loc main_arg1) :=
  Memref.read_access_unit_zero (Elt F) main_arg1 (start1 t) _ _
theorem blk2 (c : Dev nD) (t : Fin cfg0.N) : iblk m c 2 t = m ((c : Thread nD τ).loc main_arg2) :=
  Memref.read_access_unit_zero (Elt F) main_arg2 (start2 t) _ _
theorem blk3 (c : Dev nD) (t : Fin cfg0.N) : iblk m c 3 t = m ((c : Thread nD τ).loc main_arg3) :=
  Memref.read_access_unit_zero (Elt F) main_arg3 (start3 t) _ _

/-- The result array as a function of the arguments on a device. -/
def wholeOf (c : Dev nD) : Vec F S4096x8192 .f32 :=
  whole (m ((c : Thread nD τ).loc main_arg0)) (m ((c : Thread nD τ).loc main_arg1))
    (m ((c : Thread nD τ).loc main_arg2)) (m ((c : Thread nD τ).loc main_arg3))

/-- The result array after the run. -/
theorem final_eq (c : Dev nD) : (dats m 0 c).arrAt 4 cfg0.N = wholeOf m c := by
  have h := blocks4 m c ⟨0, by decide⟩ (flush0_4 _)
  rw [flushed4_A, out_eq, blk0, blk1, blk2, blk3] at h
  exact (Memref.read_access_unit_zero (Elt F) main_v0 (start4 ⟨0, by decide⟩) _ _).symm.trans h

/-- The run of the reference: the result array at its function of the arguments, the arguments unchanged. -/
theorem run_whole : θ_run defs (onTc (τ := τ) (main (F := F))) ⟨m, fun _ => 0, ρ⟩ fun r => ∀ c : Dev nD,
      r.2.mem ((c : Thread nD τ).loc main_v0) = wholeOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (run_blocks m ρ)

end Cert.RingProof.Whole

end
-- ==== Proof.Equation.lean ====
/- The equation of 01_k over the extended reals: what the ring leaves on a device is the device's block of 256 rows of what
   the reference computes. -/
module

public import proofs.«01_k».proof.Proof.Sums
public import proofs.«01_k».proof.Proof.ReferenceValue
public import Idealize.ShloMosaic.Lib.Layout

@[expose] public section

noncomputable section

namespace Cert.RingProof

open Idealize.ShloMosaic Idealize.ShloMosaic.TcCoe Idealize.ShloMosaic.ValueIdx
open scoped BigOperators

/-! ## The reference at a row and a column -/

theorem whole_apply (x : Vec Ideal Cert.ReferenceIdeal.S4096x4096 .fp8e4m3) (w : Vec Ideal Cert.ReferenceIdeal.S4096x8192 .fp8e5m2)
    (sx sw : Vec Ideal Cert.ReferenceIdeal.S1 .f32) (r : Fin 4096) (n : Fin 8192) :
    Whole.whole x w sx sw (ix2 r n)
      = ((∑ d : Fin 16, ∑ k : Fin 256, (x (ix2 r (at16 d k)) * w (ix2 (at16 d k) n) : EReal)) * (sx Whole.one * sw Whole.one) : EReal) := by
  rw [← sum_stretches (fun k => (x (ix2 r k) * w (ix2 k n) : EReal))]
  refine congrArg (fun z : EReal => z * (sx Whole.one * sw Whole.one : EReal)) ?_
  refine (Ideal.matmul_plain_apply (M := 4096) (K := 4096) (N := 8192) none (extf .f32 x Cert.ReferenceIdeal.Gen.facts.bitsLt_fp8e4m3_f32)
    (extf .f32 w Cert.ReferenceIdeal.Gen.facts.bitsLt_fp8e5m2_f32) (constant Cert.ReferenceIdeal.S4096x8192 .f32 0x00000000#32) r n).trans ?_
  rw [constant_apply, Ideal.ofBits_zero_f32, zero_add]
  rfl

/-! ## The ring at a row and a column -/

section Ring
open Cert.KernelIdeal Cert.KernelIdeal.Gen

variable (m : (ℓ : Loc nD τ sig) → Buf (Elt Ideal) ℓ)

/-- The two scales on device `c`. -/
def sxArg (c : Dev nD) : Vec Ideal S1 .f32 := m ((c : Thread nD τ).loc main_arg2)
def swArg (c : Dev nD) : Vec Ideal S1 .f32 := m ((c : Thread nD τ).loc main_arg3)

theorem outAt_apply (c : Dev nD) (r : Fin 256) (n : Fin 8192) :
    (outAt m c : Vec Ideal S256x8192 .f32) (ix2 r n)
      = ((∑ d : Fin 16, ∑ k : Fin 256, (xArg m d (ix2 (at16 c r) k) * wArg m d (ix2 k n) : EReal))
          * (sxArg m c Whole.one * swArg m c Whole.one) : EReal) := by
  have hsum : acc m 14 (prv c) (ix2 r n) + part m c (chunk c 15) (ix2 r n)
      = ∑ d : Fin 16, ∑ k : Fin 256, (xArg m d (ix2 (at16 c r) k) * wArg m d (ix2 k n) : EReal) := by
    rw [total_apply, show chunk c 15 = (c : Fin 16) from Fin.ext (chunk_last c)]
    exact Finset.sum_congr rfl fun d _ => part_apply m d c r n
  rw [← hsum]
  unfold outAt
  rw [sxstg_eq, swstg_eq]
  exact congrArg (fun z : EReal => (acc m 14 (prv c) (ix2 r n) + part m c (chunk c 15) (ix2 r n) : EReal) * z)
    (congrArg₂ (fun u v : EReal => u * v) (congrArg (sxArg m c) (Whole.eq_one _)) (congrArg (swArg m c) (Whole.eq_one _)))

/-! ## The two together -/

/-- With each device holding its columns of `x`, its rows of `w` and both scales, the ring leaves on each its rows of the
    reference's result. -/
theorem outAt_eq_block (x : Vec Ideal Cert.ReferenceIdeal.S4096x4096 .fp8e4m3) (w : Vec Ideal Cert.ReferenceIdeal.S4096x8192 .fp8e5m2)
    (sx sw : Vec Ideal Cert.ReferenceIdeal.S1 .f32)
    (hx : ∀ c, xArg m c = Layout.block ⟨2, ![4096, 256]⟩ ⟨2, ![4096, 4096]⟩ 1 16 c x)
    (hw : ∀ c, wArg m c = Layout.block ⟨2, ![256, 8192]⟩ ⟨2, ![4096, 8192]⟩ 0 16 c w)
    (hsx : ∀ c, sxArg m c = sx) (hsw : ∀ c, swArg m c = sw) (c : Dev nD) :
    (outAt m c : Vec Ideal S256x8192 .f32) = Layout.block ⟨2, ![256, 8192]⟩ ⟨2, ![4096, 8192]⟩ 0 16 c (Whole.whole x w sx sw) := by
  have ex : ∀ (d : Fin 16) (r : Fin 4096) (k : Fin 256), xArg m d (ix2 r k) = x (ix2 r (at16 d k)) := fun d r k => by
    rw [hx, Layout.block_apply]
    refine congrArg x (funext fun a => Fin.ext ?_)
    match a with
    | ⟨0, _⟩ => rfl
    | ⟨1, _⟩ => show d.val * 256 + k.val = 256 * d.val + k.val; omega
  have ew : ∀ (d : Fin 16) (k : Fin 256) (n : Fin 8192), wArg m d (ix2 k n) = w (ix2 (at16 d k) n) := fun d k n => by
    rw [hw, Layout.block_apply]
    refine congrArg w (funext fun a => Fin.ext ?_)
    match a with
    | ⟨0, _⟩ => show d.val * 256 + k.val = 256 * d.val + k.val; omega
    | ⟨1, _⟩ => rfl
  funext i
  obtain ⟨r, n, rfl⟩ : ∃ (r : Fin 256) (n : Fin 8192), i = ix2 r n := ⟨_, _, eq_ix2 i⟩
  rw [outAt_apply, hsx, hsw, Layout.block_apply]
  refine Eq.trans ?_ ((whole_apply x w sx sw (at16 c r) n).symm.trans (congrArg (Whole.whole x w sx sw) (funext fun a => Fin.ext ?_)))
  · refine congrArg (fun z : EReal => z * (sx Whole.one * sw Whole.one : EReal)) ?_
    exact Finset.sum_congr rfl fun d _ => Finset.sum_congr rfl fun k _ => by rw [ex, ew]
  · match a with
    | ⟨0, _⟩ => show 256 * c.val + r.val = c.val * 256 + r.val; omega
    | ⟨1, _⟩ => rfl

end Ring

end Cert.RingProof

end
-- ==== Proof.lean ====
/- The claims of 01_k: the three programs end with their arguments as launched and every semaphore at zero, and over the
   extended reals the ring leaves on each device its block of what the reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.RingProof

/-! ## The programs end as they should -/

section Ring
open Cert.KernelIdeal

/-- The ring, over any float values. -/
theorem frame_ring {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun _ h => ⟨fun c =>
    ⟨(h.1 c (0 : Fin 5)).trans (finalA_in m c 0 rfl), (h.1 c (1 : Fin 5)).trans (finalA_in m c 1 rfl),
      (h.1 c (2 : Fin 5)).trans (finalA_in m c 2 rfl), (h.1 c (3 : Fin 5)).trans (finalA_in m c 3 rfl)⟩, h.2⟩)
    (run_main m ρ)

end Ring

/-! The first two programs have the same text. -/

section Same
variable {F : FTy → Type} [FloatOps F]

theorem same_defs₀ : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F)
    (Λ := Cert.Kernel.Λ₀)) (funext fun l => funext fun a => ?_)
  match l with
  | 0 => rfl

theorem same_defs : Cert.Kernel.defs (F := F) = Cert.KernelIdeal.defs (F := F) := by
  unfold Cert.Kernel.defs Cert.KernelIdeal.defs
  exact congrArg (Pipeline.defs (Cert.Kernel.pcfgs (F := F))) same_defs₀

end Same

theorem frame_kernel : Cert.quiescent_Kernel := fun m ρ _ => by
  rw [same_defs]
  exact frame_ring (F := Bits) m ρ

theorem frame_ideal : Cert.quiescent_KernelIdeal := fun m ρ _ => frame_ring (F := Ideal) m ρ

theorem frame_reference : Cert.quiescent_ReferenceIdeal := fun m ρ _ => Cert.ReferenceIdeal.Gen.frame m ρ

/-! ## The values -/

theorem ring_computes_reference : Cert.algebraic_KernelIdeal_ReferenceIdeal := fun m ρ m' ρ' _ hin => by
  refine ⟨Whole.wholeOf m' 0, ?_, ?_⟩
  · refine (θ_run (Cert.KernelIdeal.defs (F := Ideal)) _ _).mono (fun _ h c => ⟨?_, ?_, ?_, ?_, ?_⟩) (run_main (F := Ideal) m ρ)
    · exact ((h.1 c (4 : Fin 5)).trans (finalA_out m c)).trans
        (outAt_eq_block m _ _ _ _ (fun c => (hin c).1) (fun c => (hin c).2.1) (fun c => (hin c).2.2.1) (fun c => (hin c).2.2.2) c)
    · exact (h.1 c (0 : Fin 5)).trans (finalA_in m c 0 rfl)
    · exact (h.1 c (1 : Fin 5)).trans (finalA_in m c 1 rfl)
    · exact (h.1 c (2 : Fin 5)).trans (finalA_in m c 2 rfl)
    · exact (h.1 c (3 : Fin 5)).trans (finalA_in m c 3 rfl)
  · exact (θ_run (Cert.ReferenceIdeal.defs (F := Ideal)) _ _).mono (fun _ h => h 0) (Whole.run_whole m' ρ')

theorem claim : Cert.Claim := ⟨Cert.Kernel.Gen.facts, Cert.KernelIdeal.Gen.facts, Cert.ReferenceIdeal.Gen.facts,
  frame_kernel, frame_ideal, frame_reference, trivial, ring_computes_reference⟩

end Cert.Proof

end
